-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
-- ==== Pre_scales_nonnegative.lean ====
abbrev S24x512x16x64 : Shape := ⟨4, ![24, 512, 16, 64]⟩
abbrev S24x16 : Shape := ⟨2, ![24, 16]⟩
abbrev S32x16 : Shape := ⟨2, ![32, 16]⟩
abbrev S_ : Shape := ⟨0, ![]⟩

class Facts : Prop where
  bcast_S_S24x16 : S_.BroadcastsInDim S24x16 (![] : Fin 0 → Fin S24x16.rank)
  reducesTo_S24x16_S_d0_1 : S24x16.ReducesTo [0, 1] S_
  h_S_ : 0 < S_.numel

variable [Facts]

def fn {F : FTy → Type} [FloatOps F] (main_arg0 : FVec F S24x512x16x64 .fp8e4m3) (main_arg1 : FVec F S24x512x16x64 .fp8e4m3) (main_arg2 : FVec F S24x512x16x64 .fp8e4m3) (main_arg3 : FVec F S24x16 .f32) (main_arg4 : FVec F S24x16 .f32) (main_arg5 : FVec F S24x16 .f32) (main_arg6 : FVec F S32x16 .bf16) : IVec S_ 1 :=
  let main_v0 : FVec F S24x16 .f32 := mulf main_arg3 main_arg4
  let main_cst : FVec F S_ .f32 := constant S_ .f32 0x00000000#32
  let main_v1 : FVec F S24x16 .f32 := broadcastInDim S24x16 ![] bcast_S_S24x16 main_cst
  let main_v2 : IVec S24x16 1 := cmpf .oge main_v0 main_v1
  let main_c : IVec S_ 1 := constantI S_ 1 1#1
  let main_v3 : IVec S_ 1 := (fun x v => Host.reduce IntOp.andi x v reducesTo_S24x16_S_d0_1 h_S_) main_v2 main_c
  main_v3
-- ==== Kernel.lean ====
abbrev S24x512x16x64 : Shape := ⟨4, ![24, 512, 16, 64]⟩
abbrev S24x16 : Shape := ⟨2, ![24, 16]⟩
abbrev S32x16 : Shape := ⟨2, ![32, 16]⟩
abbrev S16x24 : Shape := ⟨2, ![16, 24]⟩
abbrev S16x32 : Shape := ⟨2, ![16, 32]⟩
abbrev S24x16x64x512 : Shape := ⟨4, ![24, 16, 64, 512]⟩
abbrev S24x512x1024 : Shape := ⟨3, ![24, 512, 1024]⟩
abbrev S1x16x64x512 : Shape := ⟨4, ![1, 16, 64, 512]⟩
abbrev S1x512x1024 : Shape := ⟨3, ![1, 512, 1024]⟩
abbrev S16x320x128 : Shape := ⟨3, ![16, 320, 128]⟩
abbrev S2x512x512 : Shape := ⟨3, ![2, 512, 512]⟩
abbrev S320x128 : Shape := ⟨2, ![320, 128]⟩
abbrev S1x1 : Shape := ⟨2, ![1, 1]⟩
abbrev S1x320x128 : Shape := ⟨3, ![1, 320, 128]⟩
abbrev S1x1x64x512 : Shape := ⟨4, ![1, 1, 64, 512]⟩
abbrev S64x512 : Shape := ⟨2, ![64, 512]⟩
abbrev S512x64 : Shape := ⟨2, ![512, 64]⟩
abbrev S1x1x64x256 : Shape := ⟨4, ![1, 1, 64, 256]⟩
abbrev S64x256 : Shape := ⟨2, ![64, 256]⟩
abbrev S512x256 : Shape := ⟨2, ![512, 256]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S1x32x128 : Shape := ⟨3, ![1, 32, 128]⟩
abbrev S32x128 : Shape := ⟨2, ![32, 128]⟩
abbrev S512x128 : Shape := ⟨2, ![512, 128]⟩
abbrev S1x256 : Shape := ⟨2, ![1, 256]⟩
abbrev S128x512 : Shape := ⟨2, ![128, 512]⟩
abbrev S1x512x128 : Shape := ⟨3, ![1, 512, 128]⟩

abbrev nBuf : Space → Nat
  | .hbm => 16
  | .vmem => 11
  | .smem => 4
  | _ => 0

abbrev bufTy : (tb : Table) → Fin (tcTables nBuf tb) → BufTy
  | .hbm, ⟨0, _⟩ => ⟨S24x512x16x64, .fp8e4m3⟩
  | .hbm, ⟨1, _⟩ => ⟨S24x512x16x64, .fp8e4m3⟩
  | .hbm, ⟨2, _⟩ => ⟨S24x512x16x64, .fp8e4m3⟩
  | .hbm, ⟨3, _⟩ => ⟨S24x16, .f32⟩
  | .hbm, ⟨4, _⟩ => ⟨S24x16, .f32⟩
  | .hbm, ⟨5, _⟩ => ⟨S24x16, .f32⟩
  | .hbm, ⟨6, _⟩ => ⟨S32x16, .bf16⟩
  | .hbm, ⟨7, _⟩ => ⟨S16x24, .f32⟩
  | .hbm, ⟨8, _⟩ => ⟨S16x24, .f32⟩
  | .hbm, ⟨9, _⟩ => ⟨S16x24, .f32⟩
  | .hbm, ⟨10, _⟩ => ⟨S16x32, .bf16⟩
  | .hbm, ⟨11, _⟩ => ⟨S16x32, .f32⟩
  | .hbm, ⟨12, _⟩ => ⟨S24x16x64x512, .fp8e4m3⟩
  | .hbm, ⟨13, _⟩ => ⟨S24x16x64x512, .fp8e4m3⟩
  | .hbm, ⟨14, _⟩ => ⟨S24x16x64x512, .fp8e4m3⟩
  | .hbm, ⟨15, _⟩ => ⟨S24x512x1024, .bf16⟩
  | .local _ .vmem, ⟨0, _⟩ => ⟨S1x16x64x512, .fp8e4m3⟩
  | .local _ .vmem, ⟨1, _⟩ => ⟨S1x16x64x512, .fp8e4m3⟩
  | .local _ .vmem, ⟨2, _⟩ => ⟨S1x16x64x512, .fp8e4m3⟩
  | .local _ .vmem, ⟨3, _⟩ => ⟨S1x16x64x512, .fp8e4m3⟩
  | .local _ .vmem, ⟨4, _⟩ => ⟨S1x16x64x512, .fp8e4m3⟩
  | .local _ .vmem, ⟨5, _⟩ => ⟨S1x16x64x512, .fp8e4m3⟩
  | .local _ .vmem, ⟨6, _⟩ => ⟨S1x512x1024, .bf16⟩
  | .local _ .vmem, ⟨7, _⟩ => ⟨S1x512x1024, .bf16⟩
  | .local _ .vmem, ⟨8, _⟩ => ⟨S16x320x128, .f32⟩
  | .local _ .vmem, ⟨9, _⟩ => ⟨S2x512x512, .f32⟩
  | .local _ .vmem, ⟨10, _⟩ => ⟨S2x512x512, .f32⟩
  | .local _ .smem, ⟨0, _⟩ => ⟨S16x24, .f32⟩
  | .local _ .smem, ⟨1, _⟩ => ⟨S16x24, .f32⟩
  | .local _ .smem, ⟨2, _⟩ => ⟨S16x24, .f32⟩
  | .local _ .smem, ⟨3, _⟩ => ⟨S16x32, .f32⟩
  | _, _ => ⟨S24x512x16x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c16_i32 : BitVec 32 := 16#32
  let v10 : BitVec 32 := Scalar.addi c0_i32_3 c16_i32
  let c1_i32_4 : BitVec 32 := 1#32
  ⟨c0_i32_3, v10, c1_i32_4⟩
def k0_off1 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v13 : Index := Scalar.indexCast v12
  let c0 : Index := 0#32
  ![v13.toNat, 0]
def k0_off2 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v16 : Index := Scalar.indexCast v12
  let c16 : Index := 16#32
  ![v16.toNat, 16]
def k0_off3 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v21 : Index := Scalar.indexCast v12
  let c1 : Index := 1#32
  ![v21.toNat, 1]
def k0_off4 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v27 : Index := Scalar.indexCast v12
  let c17 : Index := 17#32
  ![v27.toNat, 17]
def k0_off5 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v33 : Index := Scalar.indexCast v12
  let c2 : Index := 2#32
  ![v33.toNat, 2]
def k0_off6 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v39 : Index := Scalar.indexCast v12
  let c18 : Index := 18#32
  ![v39.toNat, 18]
def k0_off7 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v45 : Index := Scalar.indexCast v12
  let c3 : Index := 3#32
  ![v45.toNat, 3]
def k0_off8 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v51 : Index := Scalar.indexCast v12
  let c19 : Index := 19#32
  ![v51.toNat, 19]
def k0_off9 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v57 : Index := Scalar.indexCast v12
  let c4 : Index := 4#32
  ![v57.toNat, 4]
def k0_off10 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v63 : Index := Scalar.indexCast v12
  let c20 : Index := 20#32
  ![v63.toNat, 20]
def k0_off11 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v69 : Index := Scalar.indexCast v12
  let c5 : Index := 5#32
  ![v69.toNat, 5]
def k0_off12 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v75 : Index := Scalar.indexCast v12
  let c21 : Index := 21#32
  ![v75.toNat, 21]
def k0_off13 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v81 : Index := Scalar.indexCast v12
  let c6 : Index := 6#32
  ![v81.toNat, 6]
def k0_off14 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v87 : Index := Scalar.indexCast v12
  let c22 : Index := 22#32
  ![v87.toNat, 22]
def k0_off15 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v93 : Index := Scalar.indexCast v12
  let c7 : Index := 7#32
  ![v93.toNat, 7]
def k0_off16 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v99 : Index := Scalar.indexCast v12
  let c23 : Index := 23#32
  ![v99.toNat, 23]
def k0_off17 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v105 : Index := Scalar.indexCast v12
  let c8 : Index := 8#32
  ![v105.toNat, 8]
def k0_off18 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v111 : Index := Scalar.indexCast v12
  let c24 : Index := 24#32
  ![v111.toNat, 24]
def k0_off19 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v117 : Index := Scalar.indexCast v12
  let c9 : Index := 9#32
  ![v117.toNat, 9]
def k0_off20 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v123 : Index := Scalar.indexCast v12
  let c25 : Index := 25#32
  ![v123.toNat, 25]
def k0_off21 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v129 : Index := Scalar.indexCast v12
  let c10 : Index := 10#32
  ![v129.toNat, 10]
def k0_off22 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v135 : Index := Scalar.indexCast v12
  let c26 : Index := 26#32
  ![v135.toNat, 26]
def k0_off23 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v141 : Index := Scalar.indexCast v12
  let c11 : Index := 11#32
  ![v141.toNat, 11]
def k0_off24 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v147 : Index := Scalar.indexCast v12
  let c27 : Index := 27#32
  ![v147.toNat, 27]
def k0_off25 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v153 : Index := Scalar.indexCast v12
  let c12 : Index := 12#32
  ![v153.toNat, 12]
def k0_off26 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v159 : Index := Scalar.indexCast v12
  let c28 : Index := 28#32
  ![v159.toNat, 28]
def k0_off27 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v165 : Index := Scalar.indexCast v12
  let c13 : Index := 13#32
  ![v165.toNat, 13]
def k0_off28 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v171 : Index := Scalar.indexCast v12
  let c29 : Index := 29#32
  ![v171.toNat, 29]
def k0_off29 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v177 : Index := Scalar.indexCast v12
  let c14 : Index := 14#32
  ![v177.toNat, 14]
def k0_off30 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v183 : Index := Scalar.indexCast v12
  let c30 : Index := 30#32
  ![v183.toNat, 30]
def k0_off31 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v189 : Index := Scalar.indexCast v12
  let c15 : Index := 15#32
  ![v189.toNat, 15]
def k0_off32 (k0_t1 : Fin k0_t1_loop.trips) : Fin 2 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v195 : Index := Scalar.indexCast v12
  let c31 : Index := 31#32
  ![v195.toNat, 31]
def k0_off33 (k0_t1 : Fin k0_t1_loop.trips) : Fin 3 → Nat :=
  let c0_i32_7 : BitVec 32 := 0#32
  let c0_i32_3 : BitVec 32 := 0#32
  let c1_i32_4 : BitVec 32 := 1#32
  let arg12 : BitVec 32 := Scf.iv c0_i32_3 c1_i32_4 k0_t1
  let c1_i32_6 : BitVec 32 := 1#32
  let v11 : BitVec 32 := Scalar.muli arg12 c1_i32_6
  let v12 : BitVec 32 := Scalar.addi c0_i32_7 v11
  let v204 : Index := Scalar.indexCast v12
  let c0_27 : Index := 0#32
  let c0_28 : Index := 0#32
  ![v204.toNat, 0, 0]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off34 (i : grid0.Coords) (k0_t2 : Fin k0_t2_loop.trips) : Fin 2 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v7 : Index := Scalar.indexCast v6
  let arg0 : BitVec 32 := BitVec.ofNat 32 (i 0).val
  let v8 : Index := Scalar.indexCast arg0
  ![v7.toNat, v8.toNat]
def k0_off35 (k0_t2 : Fin k0_t2_loop.trips) : Fin 2 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v18 : Index := Scalar.indexCast v6
  let c15 : Index := 15#32
  ![v18.toNat, 15]
def k0_off36 (k0_t2 : Fin k0_t2_loop.trips) : Fin 2 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v21 : Index := Scalar.indexCast v6
  let c31 : Index := 31#32
  ![v21.toNat, 31]
def k0_off37 (k0_t2 : Fin k0_t2_loop.trips) : Fin 4 → Nat :=
  let c0 : Index := 0#32
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v24 : Index := Scalar.indexCast v6
  let c0_7 : Index := 0#32
  let c0_8 : Index := 0#32
  ![0, v24.toNat, 0, 0]
def k0_off38 (k0_t2 : Fin k0_t2_loop.trips) : Fin 4 → Nat :=
  let c0_12 : Index := 0#32
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v31 : Index := Scalar.indexCast v6
  let c0_13 : Index := 0#32
  let c0_14 : Index := 0#32
  ![0, v31.toNat, 0, 0]
def k0_off39 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v38 : Index := Scalar.indexCast v6
  let c96 : Index := 96#32
  let c0_16 : Index := 0#32
  ![v38.toNat, 96, 0]
def k0_off40 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v48 : Index := Scalar.indexCast v6
  let c104 : Index := 104#32
  let c0_20 : Index := 0#32
  ![v48.toNat, 104, 0]
def k0_off41 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v59 : Index := Scalar.indexCast v6
  let c112 : Index := 112#32
  let c0_23 : Index := 0#32
  ![v59.toNat, 112, 0]
def k0_off42 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v70 : Index := Scalar.indexCast v6
  let c120 : Index := 120#32
  let c0_26 : Index := 0#32
  ![v70.toNat, 120, 0]
def k0_off43 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v81 : Index := Scalar.indexCast v6
  let c128 : Index := 128#32
  let c0_29 : Index := 0#32
  ![v81.toNat, 128, 0]
def k0_off44 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v92 : Index := Scalar.indexCast v6
  let c136 : Index := 136#32
  let c0_32 : Index := 0#32
  ![v92.toNat, 136, 0]
def k0_off45 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v103 : Index := Scalar.indexCast v6
  let c144 : Index := 144#32
  let c0_35 : Index := 0#32
  ![v103.toNat, 144, 0]
def k0_off46 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v114 : Index := Scalar.indexCast v6
  let c152 : Index := 152#32
  let c0_38 : Index := 0#32
  ![v114.toNat, 152, 0]
def k0_off47 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v125 : Index := Scalar.indexCast v6
  let c160 : Index := 160#32
  let c0_41 : Index := 0#32
  ![v125.toNat, 160, 0]
def k0_off48 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v136 : Index := Scalar.indexCast v6
  let c168 : Index := 168#32
  let c0_44 : Index := 0#32
  ![v136.toNat, 168, 0]
def k0_off49 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v147 : Index := Scalar.indexCast v6
  let c176 : Index := 176#32
  let c0_47 : Index := 0#32
  ![v147.toNat, 176, 0]
def k0_off50 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v158 : Index := Scalar.indexCast v6
  let c184 : Index := 184#32
  let c0_50 : Index := 0#32
  ![v158.toNat, 184, 0]
def k0_off51 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v169 : Index := Scalar.indexCast v6
  let c192 : Index := 192#32
  let c0_53 : Index := 0#32
  ![v169.toNat, 192, 0]
def k0_off52 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v180 : Index := Scalar.indexCast v6
  let c200 : Index := 200#32
  let c0_57 : Index := 0#32
  ![v180.toNat, 200, 0]
def k0_off53 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v191 : Index := Scalar.indexCast v6
  let c208 : Index := 208#32
  let c0_61 : Index := 0#32
  ![v191.toNat, 208, 0]
def k0_off54 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v202 : Index := Scalar.indexCast v6
  let c216 : Index := 216#32
  let c0_65 : Index := 0#32
  ![v202.toNat, 216, 0]
def k0_off55 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v213 : Index := Scalar.indexCast v6
  let c224 : Index := 224#32
  let c0_69 : Index := 0#32
  ![v213.toNat, 224, 0]
def k0_off56 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v224 : Index := Scalar.indexCast v6
  let c232 : Index := 232#32
  let c0_73 : Index := 0#32
  ![v224.toNat, 232, 0]
def k0_off57 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v235 : Index := Scalar.indexCast v6
  let c240 : Index := 240#32
  let c0_77 : Index := 0#32
  ![v235.toNat, 240, 0]
def k0_off58 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v246 : Index := Scalar.indexCast v6
  let c248 : Index := 248#32
  let c0_81 : Index := 0#32
  ![v246.toNat, 248, 0]
def k0_off59 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v257 : Index := Scalar.indexCast v6
  let c256 : Index := 256#32
  let c0_85 : Index := 0#32
  ![v257.toNat, 256, 0]
def k0_off60 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v268 : Index := Scalar.indexCast v6
  let c264 : Index := 264#32
  let c0_89 : Index := 0#32
  ![v268.toNat, 264, 0]
def k0_off61 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v279 : Index := Scalar.indexCast v6
  let c272 : Index := 272#32
  let c0_93 : Index := 0#32
  ![v279.toNat, 272, 0]
def k0_off62 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v290 : Index := Scalar.indexCast v6
  let c280 : Index := 280#32
  let c0_97 : Index := 0#32
  ![v290.toNat, 280, 0]
def k0_off63 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v301 : Index := Scalar.indexCast v6
  let c288 : Index := 288#32
  let c0_101 : Index := 0#32
  ![v301.toNat, 288, 0]
def k0_off64 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v312 : Index := Scalar.indexCast v6
  let c296 : Index := 296#32
  let c0_105 : Index := 0#32
  ![v312.toNat, 296, 0]
def k0_off65 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v323 : Index := Scalar.indexCast v6
  let c304 : Index := 304#32
  let c0_109 : Index := 0#32
  ![v323.toNat, 304, 0]
def k0_off66 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v334 : Index := Scalar.indexCast v6
  let c312 : Index := 312#32
  let c0_113 : Index := 0#32
  ![v334.toNat, 312, 0]
def k0_off67 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1438 : Index := Scalar.indexCast v6
  let c0_720 : Index := 0#32
  let c0_721 : Index := 0#32
  ![v1438.toNat, 0, 0]
def k0_off68 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1448 : Index := Scalar.indexCast v6
  let c8_725 : Index := 8#32
  let c0_726 : Index := 0#32
  ![v1448.toNat, 8, 0]
def k0_off69 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1459 : Index := Scalar.indexCast v6
  let c16_730 : Index := 16#32
  let c0_731 : Index := 0#32
  ![v1459.toNat, 16, 0]
def k0_off70 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1470 : Index := Scalar.indexCast v6
  let c24_735 : Index := 24#32
  let c0_736 : Index := 0#32
  ![v1470.toNat, 24, 0]
def k0_off71 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1481 : Index := Scalar.indexCast v6
  let c32_740 : Index := 32#32
  let c0_741 : Index := 0#32
  ![v1481.toNat, 32, 0]
def k0_off72 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1492 : Index := Scalar.indexCast v6
  let c40_745 : Index := 40#32
  let c0_746 : Index := 0#32
  ![v1492.toNat, 40, 0]
def k0_off73 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1503 : Index := Scalar.indexCast v6
  let c48_750 : Index := 48#32
  let c0_751 : Index := 0#32
  ![v1503.toNat, 48, 0]
def k0_off74 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1514 : Index := Scalar.indexCast v6
  let c56_755 : Index := 56#32
  let c0_756 : Index := 0#32
  ![v1514.toNat, 56, 0]
def k0_off75 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1525 : Index := Scalar.indexCast v6
  let c64_760 : Index := 64#32
  let c0_761 : Index := 0#32
  ![v1525.toNat, 64, 0]
def k0_off76 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1536 : Index := Scalar.indexCast v6
  let c72_765 : Index := 72#32
  let c0_766 : Index := 0#32
  ![v1536.toNat, 72, 0]
def k0_off77 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1547 : Index := Scalar.indexCast v6
  let c80_770 : Index := 80#32
  let c0_771 : Index := 0#32
  ![v1547.toNat, 80, 0]
def k0_off78 (k0_t2 : Fin k0_t2_loop.trips) : Fin 3 → Nat :=
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v1558 : Index := Scalar.indexCast v6
  let c88_775 : Index := 88#32
  let c0_776 : Index := 0#32
  ![v1558.toNat, 88, 0]
def k0_off79 (k0_t2 : Fin k0_t2_loop.trips) : Fin 4 → Nat :=
  let c0_1492 : Index := 0#32
  let c2_i32 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v6 : BitVec 32 := Scalar.muli c2_i32 v5
  let v2858 : Index := Scalar.indexCast v6
  let c0_1493 : Index := 0#32
  let c256_1494 : Index := 256#32
  ![0, v2858.toNat, 0, 256]
def k0_off80 (i : grid0.Coords) (k0_t2 : Fin k0_t2_loop.trips) : Fin 2 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5688 : Index := Scalar.indexCast v5687
  let arg0 : BitVec 32 := BitVec.ofNat 32 (i 0).val
  let v5689 : Index := Scalar.indexCast arg0
  ![v5688.toNat, v5689.toNat]
def k0_off81 (k0_t2 : Fin k0_t2_loop.trips) : Fin 2 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5699 : Index := Scalar.indexCast v5687
  let c15_3041 : Index := 15#32
  ![v5699.toNat, 15]
def k0_off82 (k0_t2 : Fin k0_t2_loop.trips) : Fin 2 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5702 : Index := Scalar.indexCast v5687
  let c31_3043 : Index := 31#32
  ![v5702.toNat, 31]
def k0_off83 (k0_t2 : Fin k0_t2_loop.trips) : Fin 4 → Nat :=
  let c0_3045 : Index := 0#32
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5705 : Index := Scalar.indexCast v5687
  let c0_3046 : Index := 0#32
  let c0_3047 : Index := 0#32
  ![0, v5705.toNat, 0, 0]
def k0_off84 (k0_t2 : Fin k0_t2_loop.trips) : Fin 4 → Nat :=
  let c0_3051 : Index := 0#32
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5712 : Index := Scalar.indexCast v5687
  let c0_3052 : Index := 0#32
  let c0_3053 : Index := 0#32
  ![0, v5712.toNat, 0, 0]
def k0_off85 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5719 : Index := Scalar.indexCast v5687
  let c96_3055 : Index := 96#32
  let c0_3056 : Index := 0#32
  ![v5719.toNat, 96, 0]
def k0_off86 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5729 : Index := Scalar.indexCast v5687
  let c104_3059 : Index := 104#32
  let c0_3060 : Index := 0#32
  ![v5729.toNat, 104, 0]
def k0_off87 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5740 : Index := Scalar.indexCast v5687
  let c112_3064 : Index := 112#32
  let c0_3065 : Index := 0#32
  ![v5740.toNat, 112, 0]
def k0_off88 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5751 : Index := Scalar.indexCast v5687
  let c120_3069 : Index := 120#32
  let c0_3070 : Index := 0#32
  ![v5751.toNat, 120, 0]
def k0_off89 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5762 : Index := Scalar.indexCast v5687
  let c128_3074 : Index := 128#32
  let c0_3075 : Index := 0#32
  ![v5762.toNat, 128, 0]
def k0_off90 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5773 : Index := Scalar.indexCast v5687
  let c136_3079 : Index := 136#32
  let c0_3080 : Index := 0#32
  ![v5773.toNat, 136, 0]
def k0_off91 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5784 : Index := Scalar.indexCast v5687
  let c144_3084 : Index := 144#32
  let c0_3085 : Index := 0#32
  ![v5784.toNat, 144, 0]
def k0_off92 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5795 : Index := Scalar.indexCast v5687
  let c152_3089 : Index := 152#32
  let c0_3090 : Index := 0#32
  ![v5795.toNat, 152, 0]
def k0_off93 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5806 : Index := Scalar.indexCast v5687
  let c160_3094 : Index := 160#32
  let c0_3095 : Index := 0#32
  ![v5806.toNat, 160, 0]
def k0_off94 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5817 : Index := Scalar.indexCast v5687
  let c168_3099 : Index := 168#32
  let c0_3100 : Index := 0#32
  ![v5817.toNat, 168, 0]
def k0_off95 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5828 : Index := Scalar.indexCast v5687
  let c176_3104 : Index := 176#32
  let c0_3105 : Index := 0#32
  ![v5828.toNat, 176, 0]
def k0_off96 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5839 : Index := Scalar.indexCast v5687
  let c184_3109 : Index := 184#32
  let c0_3110 : Index := 0#32
  ![v5839.toNat, 184, 0]
def k0_off97 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5850 : Index := Scalar.indexCast v5687
  let c192_3114 : Index := 192#32
  let c0_3115 : Index := 0#32
  ![v5850.toNat, 192, 0]
def k0_off98 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5861 : Index := Scalar.indexCast v5687
  let c200_3119 : Index := 200#32
  let c0_3120 : Index := 0#32
  ![v5861.toNat, 200, 0]
def k0_off99 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5872 : Index := Scalar.indexCast v5687
  let c208_3124 : Index := 208#32
  let c0_3125 : Index := 0#32
  ![v5872.toNat, 208, 0]
def k0_off100 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5883 : Index := Scalar.indexCast v5687
  let c216_3129 : Index := 216#32
  let c0_3130 : Index := 0#32
  ![v5883.toNat, 216, 0]
def k0_off101 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5894 : Index := Scalar.indexCast v5687
  let c224_3134 : Index := 224#32
  let c0_3135 : Index := 0#32
  ![v5894.toNat, 224, 0]
def k0_off102 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5905 : Index := Scalar.indexCast v5687
  let c232_3139 : Index := 232#32
  let c0_3140 : Index := 0#32
  ![v5905.toNat, 232, 0]
def k0_off103 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5916 : Index := Scalar.indexCast v5687
  let c240_3144 : Index := 240#32
  let c0_3145 : Index := 0#32
  ![v5916.toNat, 240, 0]
def k0_off104 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5927 : Index := Scalar.indexCast v5687
  let c248_3149 : Index := 248#32
  let c0_3150 : Index := 0#32
  ![v5927.toNat, 248, 0]
def k0_off105 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5938 : Index := Scalar.indexCast v5687
  let c256_3154 : Index := 256#32
  let c0_3155 : Index := 0#32
  ![v5938.toNat, 256, 0]
def k0_off106 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5949 : Index := Scalar.indexCast v5687
  let c264_3159 : Index := 264#32
  let c0_3160 : Index := 0#32
  ![v5949.toNat, 264, 0]
def k0_off107 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5960 : Index := Scalar.indexCast v5687
  let c272_3164 : Index := 272#32
  let c0_3165 : Index := 0#32
  ![v5960.toNat, 272, 0]
def k0_off108 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5971 : Index := Scalar.indexCast v5687
  let c280_3169 : Index := 280#32
  let c0_3170 : Index := 0#32
  ![v5971.toNat, 280, 0]
def k0_off109 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5982 : Index := Scalar.indexCast v5687
  let c288_3174 : Index := 288#32
  let c0_3175 : Index := 0#32
  ![v5982.toNat, 288, 0]
def k0_off110 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v5993 : Index := Scalar.indexCast v5687
  let c296_3179 : Index := 296#32
  let c0_3180 : Index := 0#32
  ![v5993.toNat, 296, 0]
def k0_off111 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v6004 : Index := Scalar.indexCast v5687
  let c304_3184 : Index := 304#32
  let c0_3185 : Index := 0#32
  ![v6004.toNat, 304, 0]
def k0_off112 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v6015 : Index := Scalar.indexCast v5687
  let c312_3189 : Index := 312#32
  let c0_3190 : Index := 0#32
  ![v6015.toNat, 312, 0]
def k0_off113 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7119 : Index := Scalar.indexCast v5687
  let c0_3824 : Index := 0#32
  let c0_3825 : Index := 0#32
  ![v7119.toNat, 0, 0]
def k0_off114 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7129 : Index := Scalar.indexCast v5687
  let c8_3829 : Index := 8#32
  let c0_3830 : Index := 0#32
  ![v7129.toNat, 8, 0]
def k0_off115 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7140 : Index := Scalar.indexCast v5687
  let c16_3834 : Index := 16#32
  let c0_3835 : Index := 0#32
  ![v7140.toNat, 16, 0]
def k0_off116 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7151 : Index := Scalar.indexCast v5687
  let c24_3839 : Index := 24#32
  let c0_3840 : Index := 0#32
  ![v7151.toNat, 24, 0]
def k0_off117 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7162 : Index := Scalar.indexCast v5687
  let c32_3844 : Index := 32#32
  let c0_3845 : Index := 0#32
  ![v7162.toNat, 32, 0]
def k0_off118 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7173 : Index := Scalar.indexCast v5687
  let c40_3849 : Index := 40#32
  let c0_3850 : Index := 0#32
  ![v7173.toNat, 40, 0]
def k0_off119 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7184 : Index := Scalar.indexCast v5687
  let c48_3854 : Index := 48#32
  let c0_3855 : Index := 0#32
  ![v7184.toNat, 48, 0]
def k0_off120 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7195 : Index := Scalar.indexCast v5687
  let c56_3859 : Index := 56#32
  let c0_3860 : Index := 0#32
  ![v7195.toNat, 56, 0]
def k0_off121 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7206 : Index := Scalar.indexCast v5687
  let c64_3864 : Index := 64#32
  let c0_3865 : Index := 0#32
  ![v7206.toNat, 64, 0]
def k0_off122 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7217 : Index := Scalar.indexCast v5687
  let c72_3869 : Index := 72#32
  let c0_3870 : Index := 0#32
  ![v7217.toNat, 72, 0]
def k0_off123 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7228 : Index := Scalar.indexCast v5687
  let c80_3874 : Index := 80#32
  let c0_3875 : Index := 0#32
  ![v7228.toNat, 80, 0]
def k0_off124 (k0_t2 : Fin k0_t2_loop.trips) : Fin 3 → Nat :=
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v7239 : Index := Scalar.indexCast v5687
  let c88_3879 : Index := 88#32
  let c0_3880 : Index := 0#32
  ![v7239.toNat, 88, 0]
def k0_off125 (k0_t2 : Fin k0_t2_loop.trips) : Fin 4 → Nat :=
  let c0_4596 : Index := 0#32
  let c2_i32_3038 : BitVec 32 := 2#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let v5686 : BitVec 32 := Scalar.muli c2_i32_3038 v5
  let c1_i32_3039 : BitVec 32 := 1#32
  let v5687 : BitVec 32 := Scalar.addi v5686 c1_i32_3039
  let v8539 : Index := Scalar.indexCast v5687
  let c0_4597 : Index := 0#32
  let c256_4598 : Index := 256#32
  ![0, v8539.toNat, 0, 256]
def k0_mult1 (k0_t2 : Fin k0_t2_loop.trips) : BitVec 32 :=
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let c2_i32_6142 : BitVec 32 := 2#32
  let v11370 : BitVec 32 := Scalar.muli v5 c2_i32_6142
  let c64_i32 : BitVec 32 := 64#32
  let v11371 : BitVec 32 := Scalar.muli v11370 c64_i32
  v11371
def k0_off126 (k0_t2 : Fin k0_t2_loop.trips) : Fin 3 → Nat :=
  let c0_6143 : Index := 0#32
  let c0_6144 : Index := 0#32
  let c0_i32_4 : BitVec 32 := 0#32
  let c0_i32_1 : BitVec 32 := 0#32
  let c1_i32 : BitVec 32 := 1#32
  let arg12 : BitVec 32 := Scf.iv c0_i32_1 c1_i32 k0_t2
  let c1_i32_3 : BitVec 32 := 1#32
  let v4 : BitVec 32 := Scalar.muli arg12 c1_i32_3
  let v5 : BitVec 32 := Scalar.addi c0_i32_4 v4
  let c2_i32_6142 : BitVec 32 := 2#32
  let v11370 : BitVec 32 := Scalar.muli v5 c2_i32_6142
  let c64_i32 : BitVec 32 := 64#32
  let v11371 : BitVec 32 := Scalar.muli v11370 c64_i32
  let v11372 : BitVec 32 := v11371
  let v11373 : Index := Scalar.indexCast v11372
  ![0, 0, v11373.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x64x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x64x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S24x512x16x64 : Shape := ⟨4, ![24, 512, 16, 64]⟩
abbrev S24x16 : Shape := ⟨2, ![24, 16]⟩
abbrev S32x16 : Shape := ⟨2, ![32, 16]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S512x512x1 : Shape := ⟨3, ![512, 512, 1]⟩
abbrev S512x512x16 : Shape := ⟨3, ![512, 512, 16]⟩
abbrev S24x512x1024 : Shape := ⟨3, ![24, 512, 1024]⟩
abbrev S24x1x1x16 : Shape := ⟨4, ![24, 1, 1, 16]⟩
abbrev S24x16x512x512 : Shape := ⟨4, ![24, 16, 512, 512]⟩
abbrev S24x512x512x16 : Shape := ⟨4, ![24, 512, 512, 16]⟩
abbrev S1x512x512x16 : Shape := ⟨4, ![1, 512, 512, 16]⟩
abbrev S24x512x16 : Shape := ⟨3, ![24, 512, 16]⟩
abbrev S24x512x1x16 : Shape := ⟨4, ![24, 512, 1, 16]⟩
abbrev S24x16x64x512 : Shape := ⟨4, ![24, 16, 64, 512]⟩
abbrev S24x512x16x1 : Shape := ⟨4, ![24, 512, 16, 1]⟩
abbrev S24x1x16x1 : Shape := ⟨4, ![24, 1, 16, 1]⟩

abbrev nBuf : Space → Nat
  | .hbm => 76
  | .vmem => 8
  | .smem => 0
  | _ => 0

abbrev bufTy : (tb : Table) → Fin (tcTables nBuf tb) → BufTy
  | .hbm, ⟨0, _⟩ => ⟨S24x512x16x64, .fp8e4m3⟩
  | .hbm, ⟨1, _⟩ => ⟨S24x512x16x64, .fp8e4m3⟩
  | .hbm, ⟨2, _⟩ => ⟨S24x512x16x64, .fp8e4m3⟩
  | .hbm, ⟨3, _⟩ => ⟨S24x16, .f32⟩
  | .hbm, ⟨4, _⟩ => ⟨S24x16, .f32⟩
  | .hbm, ⟨5, _⟩ => ⟨S24x16, .f32⟩
  | .hbm, ⟨6, _⟩ => ⟨S32x16, .bf16⟩
  | .hbm, ⟨7, _⟩ => ⟨S512, .i32⟩
  | .hbm, ⟨8, _⟩ => ⟨S1x512, .i32⟩
  | .hbm, ⟨9, _⟩ => ⟨S512x1, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i1⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i1⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i1⟩
  | .hbm, ⟨44, _⟩ => ⟨S512x512, .i32⟩
  | .hbm, ⟨45, _⟩ => ⟨S512x512, .i32⟩
  | .hbm, ⟨46, _⟩ => ⟨S_, .i32⟩
  | .hbm, ⟨47, _⟩ => ⟨S512x512, .i32⟩
  | .hbm, ⟨48, _⟩ => ⟨S512x512, .i1⟩
  | .hbm, ⟨49, _⟩ => ⟨S512x512, .i32⟩
  | .hbm, ⟨50, _⟩ => ⟨S512x512, .i32⟩
  | .hbm, ⟨51, _⟩ => ⟨S_, .i32⟩
  | .hbm, ⟨52, _⟩ => ⟨S512x512, .i32⟩
  | .hbm, ⟨53, _⟩ => ⟨S512x512, .i1⟩
  | .hbm, ⟨54, _⟩ => ⟨S_, .i32⟩
  | .hbm, ⟨55, _⟩ => ⟨S_, .i32⟩
  | .hbm, ⟨56, _⟩ => ⟨S512x512, .i32⟩
  | .hbm, ⟨57, _⟩ => ⟨S512x512, .i32⟩
  | .hbm, ⟨58, _⟩ => ⟨S512x512, .i32⟩
  | .hbm, ⟨59, _⟩ => ⟨S_, .i32⟩
  | .hbm, ⟨60, _⟩ => ⟨S512x512, .i32⟩
  | .hbm, ⟨61, _⟩ => ⟨S512x512, .i1⟩
  | .hbm, ⟨62, _⟩ => ⟨S512x512, .i32⟩
  | .hbm, ⟨63, _⟩ => ⟨S512x512, .i32⟩
  | .hbm, ⟨64, _⟩ => ⟨S512x512, .i32⟩
  | .hbm, ⟨65, _⟩ => ⟨S_, .i32⟩
  | .hbm, ⟨66, _⟩ => ⟨S512x512, .i32⟩
  | .hbm, ⟨67, _⟩ => ⟨S512x512, .i1⟩
  | .hbm, ⟨68, _⟩ => ⟨S_, .i32⟩
  | .hbm, ⟨69, _⟩ => ⟨S512x512, .i32⟩
  | .hbm, ⟨70, _⟩ => ⟨S512x512, .i32⟩
  | .hbm, ⟨71, _⟩ => ⟨S512x512, .i32⟩
  | .hbm, ⟨72, _⟩ => ⟨S512x512x1, .i32⟩
  | .hbm, ⟨73, _⟩ => ⟨S512x512x16, .bf16⟩
  | .hbm, ⟨74, _⟩ => ⟨S512x512x16, .f32⟩
  | .hbm, ⟨75, _⟩ => ⟨S24x512x1024, .bf16⟩
  | .local _ .vmem, ⟨0, _⟩ => ⟨S24x512x16x64, .fp8e4m3⟩
  | .local _ .vmem, ⟨1, _⟩ => ⟨S24x512x16x64, .fp8e4m3⟩
  | .local _ .vmem, ⟨2, _⟩ => ⟨S24x512x16x64, .fp8e4m3⟩
  | .local _ .vmem, ⟨3, _⟩ => ⟨S24x16, .f32⟩
  | .local _ .vmem, ⟨4, _⟩ => ⟨S24x16, .f32⟩
  | .local _ .vmem, ⟨5, _⟩ => ⟨S24x16, .f32⟩
  | .local _ .vmem, ⟨6, _⟩ => ⟨S512x512x16, .f32⟩
  | .local _ .vmem, ⟨7, _⟩ => ⟨S24x512x1024, .bf16⟩
  | _, _ => ⟨S24x512x16x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_c_9 : Ref sig .tc := ⟨.hbm, 55, rfl⟩
abbrev main_call0_v0 : Ref sig .tc := ⟨.hbm, 56, rfl⟩
abbrev main_call0_v1 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S24x512x16x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x512x16x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x512x16x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Struct.lean ====
module

public import Idealize.ShloMosaic.Lib.Exec
public import Idealize.ShloMosaic.Lib.Decide

@[expose] public section

/-! The kernel's work on one head pair, written as a program over the same memrefs with its row loops as
recursions: the printed body is this program definitionally (`Same.lean`), and it is what the proofs run. -/

namespace T5

open Idealize.ShloMosaic Idealize.SL.Sem

abbrev H1 : Shape := ⟨2, ![1, 1]⟩
abbrev HSc : Shape := ⟨2, ![16, 24]⟩
abbrev HBi : Shape := ⟨2, ![16, 32]⟩
abbrev HQ : Shape := ⟨4, ![1, 16, 64, 512]⟩
abbrev HO : Shape := ⟨3, ![1, 512, 1024]⟩
abbrev HT : Shape := ⟨3, ![16, 320, 128]⟩
abbrev HS : Shape := ⟨3, ![2, 512, 512]⟩
abbrev H1x1x64x512 : Shape := ⟨4, ![1, 1, 64, 512]⟩
abbrev H1x1x64x256 : Shape := ⟨4, ![1, 1, 64, 256]⟩
abbrev H64x512 : Shape := ⟨2, ![64, 512]⟩
abbrev H512x64 : Shape := ⟨2, ![512, 64]⟩
abbrev H64x256 : Shape := ⟨2, ![64, 256]⟩
abbrev H512x256 : Shape := ⟨2, ![512, 256]⟩
abbrev H8x128 : Shape := ⟨2, ![8, 128]⟩
abbrev H1x8x128 : Shape := ⟨3, ![1, 8, 128]⟩
abbrev H128 : Shape := ⟨1, ![128]⟩
abbrev H1x128 : Shape := ⟨2, ![1, 128]⟩
abbrev H1x32x128 : Shape := ⟨3, ![1, 32, 128]⟩
abbrev H32x128 : Shape := ⟨2, ![32, 128]⟩
abbrev H512x128 : Shape := ⟨2, ![512, 128]⟩
abbrev H1x256 : Shape := ⟨2, ![1, 256]⟩
abbrev H128x512 : Shape := ⟨2, ![128, 512]⟩
abbrev H1x512x128 : Shape := ⟨3, ![1, 512, 128]⟩

variable {F : FTy → Type} [FloatOps F]

/-! ## The row vectors -/

theorem slices_row {r c : Nat} (hr : r + 8 ≤ 512) (hc : c + 128 ≤ 256) : H512x256.Slices ![r, c] H8x128 :=
  ⟨rfl, fun a => by fin_cases a <;> simp <;> omega⟩

/-- Rows `8q … 8q+7` of the score matrix `st`, columns `c0 … c0+127`. -/
noncomputable def rawRow (st : FVec F H512x256 .f32) (c0 : Nat) (hc : c0 + 128 ≤ 256) (q : Nat) (hq : q < 64) : FVec F H8x128 .f32 :=
  extractStridedSlice H8x128 ![8 * q, c0] st (slices_row (by omega) hc)

theorem casts_8_1 : H8x128.ShapeCasts H1x8x128 := by decide
theorem casts_1_8 : H1x8x128.ShapeCasts H8x128 := by decide
theorem bc_1_8 : H1x128.Broadcasts H8x128 := by decide
theorem red_8 : H8x128.Reduces [0] H128 := by decide
theorem casts_128 : H128.ShapeCasts H1x128 := by decide
theorem pos_1x8x128 : 0 < H1x8x128.numel := by decide
theorem pos_1x32x128 : 0 < H1x32x128.numel := by decide

theorem inb_S {s r c : Nat} {e f g : Nat} (hs : s + e ≤ 2) (hr : r + f ≤ 512) (hc : c + g ≤ 512) :
    ∀ a, (![s, r, c] : Fin 3 → Nat) a + (![e, f, g] : Fin 3 → Nat) a ≤ HS.size a :=
  fun a => by fin_cases a <;> simp <;> omega

theorem inb_T {s r : Nat} (hs : s < 16) (hr : r + 8 ≤ 320) :
    ∀ a, (![s, r, 0] : Fin 3 → Nat) a + H1x8x128.size a ≤ HT.size a :=
  fun a => by fin_cases a <;> simp <;> omega

/-- Where a tile lies: its scratch slot, its first query column, its first column in the pair's score
    matrix, its head. -/
structure Tile where
  slot : Nat
  i0 : Nat
  c0 : Nat
  H : Nat
  hs : slot + 1 ≤ 2
  hi : i0 + 128 ≤ 512
  hc : c0 + 128 ≤ 256
  hH : H < 16

section Prog
variable {nD : Nat} {τ : Topo} {sig : RefSig} {Λ : Labels}

/-- The rectangle of rows `8q … 8q+7` of a tile in the scratch. -/
noncomputable abbrev Tile.rect8 (T : Tile) (q : Nat) (hq : q < 64) : Rect HS :=
  Rect.unit (s := HS) ![T.slot, 8 * q, T.i0] H1x8x128.size (inb_S T.hs (by omega) T.hi)

/-- The rectangle of rows `32k … 32k+31` of a tile in the scratch. -/
noncomputable abbrev Tile.rect32 (T : Tile) (k : Nat) (hk : k < 16) : Rect HS :=
  Rect.unit (s := HS) ![T.slot, 32 * k, T.i0] H1x32x128.size (inb_S T.hs (by omega) T.hi)

/-- The eight rows of the bias table that rows `8q … 8q+7` of a tile read. -/
noncomputable abbrev Tile.rectT (T : Tile) (q : Nat) (hn : 8 * q + 96 - T.i0 + 8 ≤ 320) : Rect HT :=
  Rect.unit (s := HT) ![T.H, 8 * q + 96 - T.i0, 0] H1x8x128.size (inb_T T.hH hn)

variable (arg9 : Memref sig .tc .vmem HT .f32) (arg10 arg11 : Memref sig .tc .vmem HS .f32)

/-- Store eight rows of a tile (the buffer is read first, and the value read is not used). -/
noncomputable def putK (m : Memref sig .tc .vmem HS .f32) (T : Tile) (q : Nat) (hq : q < 64) (x : FVec F H8x128 .f32)
    (K : Prog (TpuEff nD τ sig (Elt F) Λ .tc) PUnit) : Prog (TpuEff nD τ sig (Elt F) Λ .tc) PUnit :=
  .op (.load m (T.rect8 q hq).toLoadRect (View.loadsAt_vmem pos_1x8x128)) fun _ =>
  .op (.store m (T.rect8 q hq) (shapeCast H1x8x128 x casts_8_1) Finset.univ (View.stores_vmem_bits_univ pos_1x8x128 rfl) (.inl rfl)) fun _ => K

/-- Scores of eight rows near the diagonal: scaled, with the table's bias. -/
noncomputable def nearRowOf (st : FVec F H512x256 .f32) (c : F .f32) (T : Tile) (q : Nat) (hq : q < 64)
    (t : FVec F H1x8x128 .f32) : FVec F H8x128 .f32 :=
  addf (mulf (rawRow st T.c0 T.hc q hq) (broadcast H8x128 c)) (shapeCast H8x128 t casts_1_8)

noncomputable def nearRowK (st : FVec F H512x256 .f32) (c : F .f32) (T : Tile) (q : Nat) (hq : q < 64) (hn : 8 * q + 96 - T.i0 + 8 ≤ 320)
    (K : FVec F H8x128 .f32 → Prog (TpuEff nD τ sig (Elt F) Λ .tc) PUnit) : Prog (TpuEff nD τ sig (Elt F) Λ .tc) PUnit :=
  .op (.load arg9 (T.rectT q hn).toLoadRect (View.loadsAt_vmem pos_1x8x128)) fun (t : Vec F H1x8x128 .f32) =>
  putK arg10 T q hq (nearRowOf st c T q hq t) (K (nearRowOf st c T q hq t))

noncomputable def nearRowsK (st : FVec F H512x256 .f32) (c : F .f32) (T : Tile) :
    (n q : Nat) → (hq : q + n ≤ 64) → (hn : 8 * (q + n) + 96 ≤ 320 + T.i0) → FVec F H8x128 .f32 →
    (FVec F H8x128 .f32 → Prog (TpuEff nD τ sig (Elt F) Λ .tc) PUnit) → Prog (TpuEff nD τ sig (Elt F) Λ .tc) PUnit
  | 0, _, _, _, acc, K => K acc
  | n + 1, q, hq, hn, acc, K =>
    nearRowK arg9 arg10 st c T q (by omega) (by omega) fun x =>
      nearRowsK st c T n (q + 1) (by omega) (by omega) (maximumf acc x) K

noncomputable def rawRowsK (st : FVec F H512x256 .f32) (T : Tile) :
    (n q : Nat) → (hq : q + n ≤ 64) → FVec F H8x128 .f32 →
    (FVec F H8x128 .f32 → Prog (TpuEff nD τ sig (Elt F) Λ .tc) PUnit) → Prog (TpuEff nD τ sig (Elt F) Λ .tc) PUnit
  | 0, _, _, acc, K => K acc
  | n + 1, q, hq, acc, K =>
    putK arg10 T q (by omega) (rawRow st T.c0 T.hc q (by omega))
      (rawRowsK st T n (q + 1) (by omega) (maximumf acc (rawRow st T.c0 T.hc q (by omega))) K)

/-- The scores of `n + 1` rows of eight near the diagonal, and the lanewise maximum of them. -/
noncomputable def nearK (st : FVec F H512x256 .f32) (c : F .f32) (T : Tile) (n q : Nat) (hq : q + (n + 1) ≤ 64)
    (hn : 8 * (q + (n + 1)) + 96 ≤ 320 + T.i0)
    (K : FVec F H8x128 .f32 → Prog (TpuEff nD τ sig (Elt F) Λ .tc) PUnit) : Prog (TpuEff nD τ sig (Elt F) Λ .tc) PUnit :=
  nearRowK arg9 arg10 st c T q (by omega) (by omega) fun x =>
    nearRowsK arg9 arg10 st c T n (q + 1) (by omega) (by omega) x K

/-- The unscaled scores of `n + 1` rows of eight far from the diagonal, and the lanewise maximum of them. -/
noncomputable def rawK (st : FVec F H512x256 .f32) (T : Tile) (n q : Nat) (hq : q + (n + 1) ≤ 64)
    (K : FVec F H8x128 .f32 → Prog (TpuEff nD τ sig (Elt F) Λ .tc) PUnit) : Prog (TpuEff nD τ sig (Elt F) Λ .tc) PUnit :=
  putK arg10 T q (by omega) (rawRow st T.c0 T.hc q (by omega))
    (rawRowsK arg10 st T n (q + 1) (by omega) (rawRow st T.c0 T.hc q (by omega)) K)

/-- The maximum down the eight sublanes. -/
noncomputable def colMax (x : FVec F H8x128 .f32) : FVec F H1x128 .f32 :=
  shapeCast H1x128 (multiReduction .maximumf [0] H128 x 0xFF800000#32 red_8 (.inl rfl) rfl) casts_128

/-- The maximum of the scores of a far stretch, from the unscaled ones. -/
noncomputable def farMax (c far : F .f32) (x : FVec F H8x128 .f32) : FVec F H1x128 .f32 :=
  addf (mulf (colMax x) (broadcast H1x128 c)) (broadcast H1x128 far)

/-- What a far score is shifted by. -/
noncomputable def shift (far : F .f32) (m : FVec F H1x128 .f32) : FVec F H1x128 .f32 := subf (broadcast H1x128 far) m

noncomputable def nearExp (m : FVec F H1x128 .f32) (s : FVec F H1x8x128 .f32) : FVec F H8x128 .f32 :=
  exp2 (subf (shapeCast H8x128 s casts_1_8) (broadcastTo H8x128 m bc_1_8))

noncomputable def farExp (c : F .f32) (sh : FVec F H1x128 .f32) (s : FVec F H1x8x128 .f32) : FVec F H8x128 .f32 :=
  exp2 (addf (mulf (shapeCast H8x128 s casts_1_8) (broadcast H8x128 c)) (broadcastTo H8x128 sh bc_1_8))

/-- The sum down the eight sublanes. -/
noncomputable def colSum (x : FVec F H8x128 .f32) : FVec F H1x128 .f32 :=
  shapeCast H1x128 (multiReduction .add [0] H128 x 0x00000000#32 red_8 (.inl rfl) rfl) casts_128

/-- The reciprocal of a column sum. -/
noncomputable def invOf (s : FVec F H8x128 .f32) : FVec F H1x128 .f32 :=
  divf (broadcast H1x128 (Scalar.ofBits .f32 0x3F800000#32)) (colSum s)

/-- One if the largest quantity the column holds is at least the power of two with the bits `b`, else zero. -/
noncomputable def step (inv : FVec F H1x128 .f32) (b : BitVec 32) : IVec H1x128 32 :=
  select (cmpf .oge (mulf inv (broadcast H1x128 (Scalar.ofBits .f32 0x3B124925#32))) (broadcast H1x128 (Scalar.ofBits .f32 b)))
    (broadcast H1x128 1#32) (broadcast H1x128 0#32)

/-- The exponent of a column's scale: how many of the powers of two its largest quantity reaches. -/
noncomputable def expo (inv : FVec F H1x128 .f32) : IVec H1x128 32 :=
  addi (addi (addi (addi (addi (addi (addi (addi (addi (broadcast H1x128 4294967279#32)
    (step inv 0x37000000#32)) (step inv 0x37800000#32)) (step inv 0x38000000#32)) (step inv 0x38800000#32))
    (step inv 0x39000000#32)) (step inv 0x39800000#32)) (step inv 0x3A000000#32)) (step inv 0x3A800000#32))
    (step inv 0x3B000000#32)

/-- Two to the exponent, built from its bits. -/
noncomputable def pow2 (e : IVec H1x128 32) : FVec F H1x128 .f32 :=
  bitcastToFloat .f32 (shli (addi (broadcast H1x128 127#32) e) (broadcast H1x128 23#32))

/-- Two to minus the exponent, built from its bits. -/
noncomputable def pow2n (e : IVec H1x128 32) : FVec F H1x128 .f32 :=
  bitcastToFloat .f32 (shli (subi (broadcast H1x128 127#32) e) (broadcast H1x128 23#32))

/-- What a column's exponentials are multiplied by before they are cut to codes. -/
noncomputable def ratio (inv : FVec F H1x128 .f32) : FVec F H1x128 .f32 := mulf inv (pow2n (expo inv))

theorem casts_32 : H1x32x128.ShapeCasts H32x128 := by decide
theorem bc_32 : H1x128.Broadcasts H32x128 := by decide
theorem bits_fp8 : FTy.bits .fp8e4m3 < FTy.bits .f32 := by decide
theorem bits_bf16 : FTy.bits .bf16 < FTy.bits .f32 := by decide
theorem cat_codes : Shape.Concatenates [H32x128, H32x128, H32x128, H32x128, H32x128, H32x128, H32x128, H32x128, H32x128, H32x128, H32x128, H32x128, H32x128, H32x128, H32x128, H32x128] H512x128 0 := by decide

/-- The codes of thirty-two rows of exponentials `x`. -/
noncomputable def code (r : FVec F H1x128 .f32) (x : FVec F H1x32x128 .f32) : FVec F H32x128 .fp8e4m3 :=
  truncf .fp8e4m3 (minimumf (broadcast H32x128 (Scalar.ofBits .f32 0x43E00000#32))
    (maximumf (broadcast H32x128 (Scalar.ofBits .f32 0xC3E00000#32))
      (mulf (shapeCast H32x128 x casts_32) (broadcastTo H32x128 r bc_32)))) bits_fp8

/-- The sixteen blocks of codes, one below the other. -/
noncomputable def codes (f : Fin 16 → FVec F H32x128 .fp8e4m3) : FVec F H512x128 .fp8e4m3 :=
  concatenate H512x128 0 [⟨H32x128, f 0⟩, ⟨H32x128, f 1⟩, ⟨H32x128, f 2⟩, ⟨H32x128, f 3⟩, ⟨H32x128, f 4⟩, ⟨H32x128, f 5⟩,
    ⟨H32x128, f 6⟩, ⟨H32x128, f 7⟩, ⟨H32x128, f 8⟩, ⟨H32x128, f 9⟩, ⟨H32x128, f 10⟩, ⟨H32x128, f 11⟩, ⟨H32x128, f 12⟩,
    ⟨H32x128, f 13⟩, ⟨H32x128, f 14⟩, ⟨H32x128, f 15⟩] cat_codes

/-- Load thirty-two rows of exponentials and continue with their codes. -/
noncomputable def codeK (T : Tile) (r : FVec F H1x128 .f32) (k : Nat) (hk : k < 16)
    (K : FVec F H32x128 .fp8e4m3 → Prog (TpuEff nD τ sig (Elt F) Λ .tc) PUnit) : Prog (TpuEff nD τ sig (Elt F) Λ .tc) PUnit :=
  .op (.load arg11 (T.rect32 k hk).toLoadRect (View.loadsAt_vmem pos_1x32x128)) fun (x : Vec F H1x32x128 .f32) => K (code r x)

/-- The codes of a tile from the sum `s` of its exponentials, and its scale. -/
noncomputable def finishK (vs : F .f32) (T : Tile) (s : FVec F H8x128 .f32)
    (K : FVec F H512x128 .fp8e4m3 → FVec F H1x128 .f32 → Prog (TpuEff nD τ sig (Elt F) Λ .tc) PUnit) :
    Prog (TpuEff nD τ sig (Elt F) Λ .tc) PUnit :=
  codeK arg11 T (ratio (invOf s)) 0 (by decide) fun x0 => codeK arg11 T (ratio (invOf s)) 1 (by decide) fun x1 =>
  codeK arg11 T (ratio (invOf s)) 2 (by decide) fun x2 => codeK arg11 T (ratio (invOf s)) 3 (by decide) fun x3 =>
  codeK arg11 T (ratio (invOf s)) 4 (by decide) fun x4 => codeK arg11 T (ratio (invOf s)) 5 (by decide) fun x5 =>
  codeK arg11 T (ratio (invOf s)) 6 (by decide) fun x6 => codeK arg11 T (ratio (invOf s)) 7 (by decide) fun x7 =>
  codeK arg11 T (ratio (invOf s)) 8 (by decide) fun x8 => codeK arg11 T (ratio (invOf s)) 9 (by decide) fun x9 =>
  codeK arg11 T (ratio (invOf s)) 10 (by decide) fun x10 => codeK arg11 T (ratio (invOf s)) 11 (by decide) fun x11 =>
  codeK arg11 T (ratio (invOf s)) 12 (by decide) fun x12 => codeK arg11 T (ratio (invOf s)) 13 (by decide) fun x13 =>
  codeK arg11 T (ratio (invOf s)) 14 (by decide) fun x14 => codeK arg11 T (ratio (invOf s)) 15 (by decide) fun x15 =>
  K (codes ![x0, x1, x2, x3, x4, x5, x6, x7, x8, x9, x10, x11, x12, x13, x14, x15])
    (mulf (pow2 (expo (invOf s))) (broadcast H1x128 vs))

/-- The exponentials `E` of `n` rows of eight, added to the running sum. -/
noncomputable def expRowsK (E : FVec F H1x8x128 .f32 → FVec F H8x128 .f32) (T : Tile) :
    (n q : Nat) → (hq : q + n ≤ 64) → FVec F H8x128 .f32 →
    (FVec F H8x128 .f32 → Prog (TpuEff nD τ sig (Elt F) Λ .tc) PUnit) → Prog (TpuEff nD τ sig (Elt F) Λ .tc) PUnit
  | 0, _, _, acc, K => K acc
  | n + 1, q, hq, acc, K =>
    .op (.load arg10 (T.rect8 q (by omega)).toLoadRect (View.loadsAt_vmem pos_1x8x128)) fun (s : Vec F H1x8x128 .f32) =>
    putK arg11 T q (by omega) (E s)
      (expRowsK E T n (q + 1) (by omega) (addf acc (E s)) K)

/-- Zero in every lane. -/
noncomputable def zero8 : FVec F H8x128 .f32 := broadcast H8x128 (Scalar.ofBits .f32 0x00000000#32)

/-- The exponentials of a tile whose stretches end before `lo`, before `hi` and at the end, then its codes. -/
noncomputable def tileA (st : FVec F H512x256 .f32) (c fp vs : F .f32) (T : Tile) (n p : Nat) (hq : (n + 1) + (p + 1) = 64)
    (hn : 8 * (n + 1) + 96 ≤ 320 + T.i0)
    (K : FVec F H512x128 .fp8e4m3 → FVec F H1x128 .f32 → Prog (TpuEff nD τ sig (Elt F) Λ .tc) PUnit) :
    Prog (TpuEff nD τ sig (Elt F) Λ .tc) PUnit :=
  nearK arg9 arg10 st c T n 0 (by omega) (by omega) fun a =>
  rawK arg10 st T p (0 + (n + 1)) (by omega) fun b =>
  expRowsK arg10 arg11 (nearExp (maximumf (colMax a) (farMax c fp b))) T (n + 1) 0 (by omega) zero8 fun s =>
  expRowsK arg10 arg11 (farExp c (shift fp (maximumf (colMax a) (farMax c fp b)))) T (p + 1) (0 + (n + 1)) (by omega) s fun s =>
  finishK arg11 vs T s K

noncomputable def tileB (st : FVec F H512x256 .f32) (c fn fp vs : F .f32) (T : Tile) (l n p : Nat)
    (hq : (l + 1) + (n + 1) + (p + 1) = 64) (hn : 8 * ((l + 1) + (n + 1)) + 96 ≤ 320 + T.i0)
    (K : FVec F H512x128 .fp8e4m3 → FVec F H1x128 .f32 → Prog (TpuEff nD τ sig (Elt F) Λ .tc) PUnit) :
    Prog (TpuEff nD τ sig (Elt F) Λ .tc) PUnit :=
  rawK arg10 st T l 0 (by omega) fun z =>
  nearK arg9 arg10 st c T n (0 + (l + 1)) (by omega) (by omega) fun a =>
  rawK arg10 st T p (0 + (l + 1) + (n + 1)) (by omega) fun b =>
  expRowsK arg10 arg11 (farExp c (shift fn (maximumf (maximumf (farMax c fn z) (colMax a)) (farMax c fp b)))) T (l + 1) 0 (by omega) zero8 fun s =>
  expRowsK arg10 arg11 (nearExp (maximumf (maximumf (farMax c fn z) (colMax a)) (farMax c fp b))) T (n + 1) (0 + (l + 1)) (by omega) s fun s =>
  expRowsK arg10 arg11 (farExp c (shift fp (maximumf (maximumf (farMax c fn z) (colMax a)) (farMax c fp b)))) T (p + 1) (0 + (l + 1) + (n + 1)) (by omega) s fun s =>
  finishK arg11 vs T s K

noncomputable def tileC (st : FVec F H512x256 .f32) (c fn vs : F .f32) (T : Tile) (l n : Nat) (hq : (l + 1) + (n + 1) = 64)
    (hn : 8 * ((l + 1) + (n + 1)) + 96 ≤ 320 + T.i0)
    (K : FVec F H512x128 .fp8e4m3 → FVec F H1x128 .f32 → Prog (TpuEff nD τ sig (Elt F) Λ .tc) PUnit) :
    Prog (TpuEff nD τ sig (Elt F) Λ .tc) PUnit :=
  rawK arg10 st T l 0 (by omega) fun z =>
  nearK arg9 arg10 st c T n (0 + (l + 1)) (by omega) (by omega) fun a =>
  expRowsK arg10 arg11 (farExp c (shift fn (maximumf (farMax c fn z) (colMax a)))) T (l + 1) 0 (by omega) zero8 fun s =>
  expRowsK arg10 arg11 (nearExp (maximumf (farMax c fn z) (colMax a))) T (n + 1) (0 + (l + 1)) (by omega) s fun s =>
  finishK arg11 vs T s K

theorem trK : H64x512.Transposes [1, 0] H512x64 := by decide
theorem castK : H1x1x64x512.ShapeCasts H64x512 := by decide
theorem castQ : H1x1x64x256.ShapeCasts H64x256 := by decide
theorem wfD1 : DotDims.WF H512x64 H64x256 H512x256 [1] [0] [0] [1] [] [] := by decide
theorem wfD2 : DotDims.WF H64x512 H512x256 H64x256 [1] [0] [0] [1] [] [] := by decide
theorem cat2 : Shape.Concatenates [H512x128, H512x128] H512x256 1 := by decide
theorem cat2s : Shape.Concatenates [H1x128, H1x128] H1x256 1 := by decide
theorem cat2o : Shape.Concatenates [H64x256, H64x256] H64x512 1 := by decide
theorem cat2h : Shape.Concatenates [H64x512, H64x512] H128x512 0 := by decide
theorem bc_256 : H1x256.Broadcasts H64x256 := by decide
theorem pos_k : 0 < H1x1x64x512.numel := by decide
theorem pos_q : 0 < H1x1x64x256.numel := by decide
theorem one_1 : H1.numel = 1 := by decide
theorem trO : H128x512.Transposes [1, 0] H512x128 := by decide
theorem castO : H512x128.ShapeCasts H1x512x128 := by decide
theorem pos_o : 0 < H1x512x128.numel := by decide

def dot1 : DotDims H512x64 H64x256 H512x256 where
  lhsContracting := [1]
  rhsContracting := [0]
  lhsNonContracting := [0]
  rhsNonContracting := [1]
  lhsBatch := []
  rhsBatch := []
  wf := wfD1
def dot2 : DotDims H64x512 H512x256 H64x256 where
  lhsContracting := [1]
  rhsContracting := [0]
  lhsNonContracting := [0]
  rhsNonContracting := [1]
  lhsBatch := []
  rhsBatch := []
  wf := wfD2

/-- The scores of a pair of tiles: keys against queries. -/
noncomputable def scores (k : FVec F H1x1x64x512 .fp8e4m3) (q : FVec F H1x1x64x256 .fp8e4m3) : FVec F H512x256 .f32 :=
  matmul dot1 none (transpose H512x64 [1, 0] (shapeCast H64x512 k castK) trK) (shapeCast H64x256 q castQ)
    (constant H512x256 .f32 0x00000000#32)

/-- The outputs of a pair of tiles: values against codes, scaled. -/
noncomputable def pairOut (v : FVec F H1x1x64x512 .fp8e4m3) (a b : FVec F H512x128 .fp8e4m3) (sa sb : FVec F H1x128 .f32) :
    FVec F H64x256 .f32 :=
  mulf (matmul dot2 none (shapeCast H64x512 v castK) (concatenate H512x256 1 [⟨H512x128, a⟩, ⟨H512x128, b⟩] cat2)
      (constant H64x256 .f32 0x00000000#32))
    (broadcastTo H64x256 (concatenate H1x256 1 [⟨H1x128, sa⟩, ⟨H1x128, sb⟩] cat2s) bc_256)

theorem inb_2 {s : Shape} {a b : Nat} {m n : Nat} (hs : s = ⟨2, ![m, n]⟩) (ha : a < m) (hb : b < n) :
    ∀ x, (![a, b] : Fin 2 → Nat) x + H1.size x ≤ (⟨2, ![m, n]⟩ : Shape).size x :=
  fun x => by fin_cases x <;> simp <;> omega

theorem inb_q {h c n : Nat} (hh : h < 16) (hc : c + n ≤ 512) :
    ∀ x, (![0, h, 0, c] : Fin 4 → Nat) x + (![1, 1, 64, n] : Fin 4 → Nat) x ≤ HQ.size x :=
  fun x => by fin_cases x <;> simp <;> omega

theorem inb_o {o : Nat} (ho : o + 128 ≤ 1024) :
    ∀ x, (![0, 0, o] : Fin 3 → Nat) x + H1x512x128.size x ≤ HO.size x :=
  fun x => by fin_cases x <;> simp <;> omega

/-- One word of scalar memory at row `a`, column `b`. -/
noncomputable def wordK {m n : Nat} (arg : Memref sig .tc .smem ⟨2, ![m, n]⟩ .f32) (a b : Nat) (ha : a < m) (hb : b < n)
    (K : F .f32 → Prog (TpuEff nD τ sig (Elt F) Λ .tc) PUnit) : Prog (TpuEff nD τ sig (Elt F) Λ .tc) PUnit :=
  .op (.load arg (Rect.unit (s := ⟨2, ![m, n]⟩) ![a, b] H1.size (inb_2 rfl ha hb)).toLoadRect (View.loadsAt_rect (View.loads_smem_one rfl one_1)))
    fun (f : Vec F H1 .f32) => K (f (Shape.Idx.first (one_1.symm ▸ Nat.one_pos)))

variable (arg1 arg2 arg3 : Memref sig .tc .smem HSc .f32) (arg4 : Memref sig .tc .smem HBi .f32)
  (arg5 arg6 arg7 : Memref sig .tc .vmem HQ .fp8e4m3)

/-- Two tiles: queries `p … p+255` of head `H`. -/
noncomputable def pair0K (c fp fn vs : F .f32) (k v : FVec F H1x1x64x512 .fp8e4m3) (slot H : Nat) (hs : slot + 1 ≤ 2) (hH : H < 16)
    (K : FVec F H64x256 .f32 → Prog (TpuEff nD τ sig (Elt F) Λ .tc) PUnit) : Prog (TpuEff nD τ sig (Elt F) Λ .tc) PUnit :=
  .op (.load arg5 (Rect.unit (s := HQ) ![0, H, 0, 0] H1x1x64x256.size (inb_q hH (by decide))).toLoadRect (View.loadsAt_vmem pos_q)) fun (q : Vec F H1x1x64x256 .fp8e4m3) =>
  tileA arg9 arg10 arg11 (scores k q) c fp vs ⟨slot, 0, 0, H, hs, by decide, by decide, hH⟩ 27 35 (by decide) (by simp) fun a sa =>
  tileB arg9 arg10 arg11 (scores k q) c fn fp vs ⟨slot, 128, 128, H, hs, by decide, by decide, hH⟩ 3 39 19 (by decide) (by simp) fun b sb =>
  K (pairOut v a b sa sb)

noncomputable def pair1K (c fp fn vs : F .f32) (k v : FVec F H1x1x64x512 .fp8e4m3) (slot H : Nat) (hs : slot + 1 ≤ 2) (hH : H < 16)
    (K : FVec F H64x256 .f32 → Prog (TpuEff nD τ sig (Elt F) Λ .tc) PUnit) : Prog (TpuEff nD τ sig (Elt F) Λ .tc) PUnit :=
  .op (.load arg5 (Rect.unit (s := HQ) ![0, H, 0, 256] H1x1x64x256.size (inb_q hH (by decide))).toLoadRect (View.loadsAt_vmem pos_q)) fun (q : Vec F H1x1x64x256 .fp8e4m3) =>
  tileB arg9 arg10 arg11 (scores k q) c fn fp vs ⟨slot, 256, 0, H, hs, by decide, by decide, hH⟩ 19 39 3 (by decide) (by simp) fun a sa =>
  tileC arg9 arg10 arg11 (scores k q) c fn vs ⟨slot, 384, 128, H, hs, by decide, by decide, hH⟩ 35 27 (by decide) (by simp) fun b sb =>
  K (pairOut v a b sa sb)

/-- One head at grid point `b`; `l` is the value the scale and the far biases are multiplied by. -/
noncomputable def headK (l : F .f32) (slot H b : Nat) (hs : slot + 1 ≤ 2) (hH : H < 16) (hb : b < 24)
    (K : FVec F H64x512 .f32 → Prog (TpuEff nD τ sig (Elt F) Λ .tc) PUnit) : Prog (TpuEff nD τ sig (Elt F) Λ .tc) PUnit :=
  wordK arg1 H b hH hb fun x1 => wordK arg2 H b hH hb fun x2 => wordK arg3 H b hH hb fun vs =>
  wordK arg4 H 15 hH (by decide) fun b15 => wordK arg4 H 31 hH (by decide) fun b31 =>
  .op (.load arg6 (Rect.unit (s := HQ) ![0, H, 0, 0] H1x1x64x512.size (inb_q hH (by decide))).toLoadRect (View.loadsAt_vmem pos_k)) fun (k : Vec F H1x1x64x512 .fp8e4m3) =>
  .op (.load arg7 (Rect.unit (s := HQ) ![0, H, 0, 0] H1x1x64x512.size (inb_q hH (by decide))).toLoadRect (View.loadsAt_vmem pos_k)) fun (v : Vec F H1x1x64x512 .fp8e4m3) =>
  pair0K arg9 arg10 arg11 arg5 (Scalar.mulf (Scalar.mulf x1 x2) l) (Scalar.mulf b31 l) (Scalar.mulf b15 l) vs k v slot H hs hH fun p =>
  pair1K arg9 arg10 arg11 arg5 (Scalar.mulf (Scalar.mulf x1 x2) l) (Scalar.mulf b31 l) (Scalar.mulf b15 l) vs k v slot H hs hH fun q =>
  K (concatenate H64x512 1 [⟨H64x256, p⟩, ⟨H64x256, q⟩] cat2o)

variable (arg8 : Memref sig .tc .vmem HO .bf16)

/-- The rectangle of the output block that one pair of heads writes. -/
noncomputable abbrev rectO (o : Nat) (ho : o + 128 ≤ 1024) : Rect HO := Rect.unit (s := HO) ![0, 0, o] H1x512x128.size (inb_o ho)

/-- What one pair of heads writes. -/
noncomputable def outOf (x y : FVec F H64x512 .f32) : FVec F H1x512x128 .bf16 :=
  shapeCast H1x512x128 (truncf .bf16 (transpose H512x128 [1, 0]
    (concatenate H128x512 0 [⟨H64x512, x⟩, ⟨H64x512, y⟩] cat2h) trO) bits_bf16) castO

/-- One pair of heads. -/
noncomputable def tripK (l : F .f32) (H0 H1 b o : Nat) (h0 : H0 < 16) (h1 : H1 < 16) (hb : b < 24) (ho : o + 128 ≤ 1024)
    (hst : (arg8.access (rectO o ho)).Stores Finset.univ) : Prog (TpuEff nD τ sig (Elt F) Λ .tc) PUnit :=
  headK arg9 arg10 arg11 arg1 arg2 arg3 arg4 arg5 arg6 arg7 l 0 H0 b (by decide) h0 hb fun x =>
  headK arg9 arg10 arg11 arg1 arg2 arg3 arg4 arg5 arg6 arg7 l 1 H1 b (by decide) h1 hb fun y =>
  .op (.load arg8 (rectO o ho).toLoadRect (View.loadsAt_vmem pos_o)) fun _ =>
  .op (.store arg8 (rectO o ho) (outOf x y) Finset.univ hst (.inl rfl)) fun _ => .ret ⟨⟩

/-- The word of a pair's first head, as the kernel computes it. -/
def w0 (n : Nat) (t : Fin n) : BitVec 32 := Scalar.muli 2#32 (Scalar.addi 0#32 (Scalar.muli (Scf.iv 0#32 1#32 t) 1#32))
/-- The word of its second head. -/
def w1 (n : Nat) (t : Fin n) : BitVec 32 := Scalar.addi (w0 n t) 1#32

end Prog
end T5
-- ==== Proof.Run.lean ====
module

public import proofs.«01_k».proof.Proof.Struct
public import Idealize.ShloMosaic.Lib.Pipeline.FrameBody
public import Idealize.ShloMosaic.Lib.Tactic

@[expose] public section

noncomputable section

/-! What the structured program does, as weakest preconditions: each memref is owned at what it reads, and every
piece of the program is a lemma about those readings. -/

namespace T5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable (defs : Defs nD τ sig (Elt F) Λ) (c : Dev nD)

/-- The weakest precondition of a program of core `c`. -/
abbrev WP (p : Prog (TpuEff nD τ sig (Elt F) Λ .tc) PUnit) (Q : PUnit → sProp 𝕄) : sProp 𝕄 :=
  wp frame (wpE defs Variants.none (c : Thread nD τ) none) Set.univ p Q

/-- Memref `m` owned whole, reading `X`. -/
abbrev own {sp : Space} {s : Shape} {e : EltTy} (m : Memref sig .tc sp s e) (X : s.Idx → Elt F e) : sProp 𝕄 :=
  owns (c : Thread nD τ) m fullShare X

variable {defs c}

/-- What readings `X` hold in the rectangle `r`. -/
abbrev ld {S : Shape} {V : Type} (X : S.Idx → V) (r : Rect S) : r.shape.Idx → V := fun x => X (r.emb x)

/-- Readings `X` with the rectangle `r` overwritten by `w`. -/
def upd {S : Shape} {V : Type} (X : S.Idx → V) (r : Rect S) (w : r.shape.Idx → V) : S.Idx → V :=
  fun y => open Classical in if h : ∃ x, r.emb x = y then w h.choose else X y

theorem upd_emb {S : Shape} {V : Type} (X : S.Idx → V) (r : Rect S) (w : r.shape.Idx → V) (x : r.shape.Idx) :
    upd X r w (r.emb x) = w x := by
  unfold upd
  have h : ∃ x', r.emb x' = r.emb x := ⟨x, rfl⟩
  rw [dif_pos h]
  exact congrArg w (r.emb.injective h.choose_spec)

theorem upd_of_not {S : Shape} {V : Type} (X : S.Idx → V) (r : Rect S) (w : r.shape.Idx → V) (y : S.Idx)
    (h : ∀ x, r.emb x ≠ y) : upd X r w y = X y := by
  unfold upd
  rw [dif_neg (fun ⟨x, hx⟩ => h x hx)]

theorem wp_ld {cs : CoreSpace} {s : Shape} {e : EltTy} {m : Memref sig .tc cs s e} {r : Rect s} {X : s.Idx → Elt F e}
    {hl : m.view.LoadsAt r.toLoadRect} {k : (r.shape.Idx → Elt F e) → Prog (TpuEff nD τ sig (Elt F) Λ .tc) PUnit}
    {Q : PUnit → sProp 𝕄} :
    own c m X ⊢ iprop((own c m X -∗ WP defs c (k (ld X r)) Q) -∗ WP defs c (.op (.load m r.toLoadRect hl) k) Q) := by
  unfold own owns
  iintro ⟨%f, %hf, H⟩ Hk
  iapply (wp_load Variants.none (c : Thread nD τ) none Set.univ (m := m) (r := r.toLoadRect) (f := f) (S := m.view.set)
    (View.setOn_subset_set _ _)) $$ H
  iintro H
  subst hf
  iapply Hk
  iexists f
  isplitr
  · ipureintro; rfl
  iexact H

theorem wp_st {cs : CoreSpace} {s : Shape} {e : EltTy} {m : Memref sig .tc cs s e} {r : Rect s} {X : s.Idx → Elt F e}
    {w : r.shape.Idx → Elt F e} {hx : (m.access r).Stores Finset.univ} {hm : Finset.univ = Finset.univ ∨ ∀ a, r.stride a = 1}
    {k : PUnit → Prog (TpuEff nD τ sig (Elt F) Λ .tc) PUnit} {Q : PUnit → sProp 𝕄} :
    own c m X ⊢ iprop((own c m (upd X r w) -∗ WP defs c (k ⟨⟩) Q) -∗ WP defs c (.op (.store m r w Finset.univ hx hm) k) Q) := by
  unfold own owns
  iintro ⟨%f, %hf, H⟩ Hk
  iapply (wp_store Variants.none (c : Thread nD τ) none Set.univ (m := m) (r := r) (f := f) (S := m.view.set)
    (by exact View.set_slice_subset _ r)) $$ H
  iintro H
  subst hf
  iapply Hk
  iexists ((m.access r).write (Elt F) f w Finset.univ)
  isplitr
  · ipureintro
    funext y
    by_cases h : ∃ x, r.emb x = y
    · obtain ⟨x, rfl⟩ := h
      rw [upd_emb]
      exact View.read_slice_write_emb r f w (Finset.mem_univ x)
    · rw [upd_of_not _ _ _ _ (fun x hx => h ⟨x, hx⟩)]
      refine View.read_slice_write_of_not_mem r f w _ ?_
      intro hm
      obtain ⟨x, -, hx⟩ := Finset.mem_map.mp hm
      exact h ⟨x, hx⟩
  iexact H

/-! ## The rows of a tile -/

/-- The first `n` rows of eight of a tile read as `R` says. -/
def Holds (T : Tile) (X : FVec F HS .f32) (n : Nat) (R : Nat → FVec F H8x128 .f32) : Prop :=
  ∀ q (hq : q < 64), q < n → ld X (T.rect8 q hq) = shapeCast H1x8x128 (R q) casts_8_1

theorem holds_zero (T : Tile) (X : FVec F HS .f32) (R : Nat → FVec F H8x128 .f32) : Holds T X 0 R :=
  fun q _ h => absurd h (Nat.not_lt_zero q)

theorem holds_upd {T : Tile} {X : FVec F HS .f32} {q : Nat} {R : Nat → FVec F H8x128 .f32} (h : Holds T X q R) (hq : q < 64)
    {x : FVec F H8x128 .f32} (hx : R q = x) : Holds T (upd X (T.rect8 q hq) (shapeCast H1x8x128 x casts_8_1)) (q + 1) R := by
  intro j hj hjn
  rcases Nat.lt_succ_iff_lt_or_eq.mp hjn with hlt | rfl
  · rw [← h j hj hlt]
    funext p
    refine upd_of_not _ _ _ _ fun p' hp => ?_
    have h1 := congrArg (fun y : HS.Idx => (y 1).val) hp
    have e1 : (((T.rect8 q hq).emb p') 1).val = 8 * q + (p' 1).val := by
      simp [Rect.emb, Rect.unit]
    have e2 : (((T.rect8 j hj).emb p) 1).val = 8 * j + (p 1).val := by
      simp [Rect.emb, Rect.unit]
    have l1 : (p 1).val < 8 := (p 1).isLt
    have l2 : (p' 1).val < 8 := (p' 1).isLt
    have h1' : 8 * q + (p' 1).val = 8 * j + (p 1).val := by rw [← e1, ← e2]; exact h1
    omega
  · funext p
    rw [hx]
    exact upd_emb _ _ _ p

theorem wp_putK {m : Memref sig .tc .vmem HS .f32} {T : Tile} {q : Nat} {hq : q < 64} {x : FVec F H8x128 .f32}
    {K : Prog (TpuEff nD τ sig (Elt F) Λ .tc) PUnit} {Q : PUnit → sProp 𝕄} {X : FVec F HS .f32} {R : Nat → FVec F H8x128 .f32}
    (h : Holds T X q R) (hx : R q = x) :
    own c m X ⊢ iprop((∀ X' : FVec F HS .f32, ⌜Holds T X' (q + 1) R⌝ -∗ own c m X' -∗ WP defs c K Q) -∗ WP defs c (putK m T q hq x K) Q) := by
  unfold putK
  iintro H Hk
  iapply wp_ld $$ H
  iintro H
  iapply wp_st $$ H
  iintro H
  iapply Hk $$ %_ %(holds_upd h hq hx) H

/-- The lanewise maximum of `acc` and rows `q … q+n-1`. -/
def accMax (R : Nat → FVec F H8x128 .f32) : Nat → Nat → FVec F H8x128 .f32 → FVec F H8x128 .f32
  | 0, _, acc => acc
  | n + 1, q, acc => accMax R n (q + 1) (maximumf acc (R q))

/-- The lanewise sum of `acc` and rows `q … q+n-1`. -/
def accSum (R : Nat → FVec F H8x128 .f32) : Nat → Nat → FVec F H8x128 .f32 → FVec F H8x128 .f32
  | 0, _, acc => acc
  | n + 1, q, acc => accSum R n (q + 1) (addf acc (R q))

theorem accSum_add (R : Nat → FVec F H8x128 .f32) (a b q : Nat) (acc : FVec F H8x128 .f32) :
    accSum R (a + b) q acc = accSum R b (q + a) (accSum R a q acc) := by
  induction a generalizing q acc with
  | zero => rw [Nat.zero_add]; rfl
  | succ a ih =>
    rw [show a + 1 + b = (a + b) + 1 from by omega, show q + (a + 1) = q + 1 + a from by omega]
    exact ih (q + 1) (addf acc (R q))

variable {arg9 : Memref sig .tc .vmem HT .f32} {arg10 arg11 : Memref sig .tc .vmem HS .f32}

theorem wp_nearRowsK {st : FVec F H512x256 .f32} {z : F .f32} {T : Tile} {R : Nat → FVec F H8x128 .f32} {t : FVec F HT .f32}
    {K : FVec F H8x128 .f32 → Prog (TpuEff nD τ sig (Elt F) Λ .tc) PUnit} {Q : PUnit → sProp 𝕄}
    (n : Nat) : ∀ (q : Nat) (hq : q + n ≤ 64) (hn : 8 * (q + n) + 96 ≤ 320 + T.i0) (acc : FVec F H8x128 .f32) (X : FVec F HS .f32)
    (hR : ∀ j (h64 : j < 64) (hn : 8 * j + 96 - T.i0 + 8 ≤ 320), q ≤ j → j < q + n → R j = nearRowOf st z T j h64 (ld t (T.rectT j hn)))
    (hX : Holds T X q R),
    iprop(own c arg9 t ∗ own c arg10 X) ⊢ iprop((∀ X' : FVec F HS .f32, ⌜Holds T X' (q + n) R⌝ -∗ own c arg9 t -∗ own c arg10 X' -∗ WP defs c (K (accMax R n q acc)) Q)
      -∗ WP defs c (nearRowsK arg9 arg10 st z T n q hq hn acc K) Q) := by
  induction n with
  | zero =>
    intro q hq hn acc X hR hX
    unfold nearRowsK
    iintro ⟨H9, H10⟩ Hk
    iapply Hk $$ %X %hX H9 H10
  | succ n ih =>
    intro q hq hn acc X hR hX
    unfold nearRowsK nearRowK
    iintro ⟨H9, H10⟩ Hk
    iapply wp_ld $$ H9
    iintro H9
    rw [← hR q (by omega) (by omega) (by omega) (by omega)]
    iapply (wp_putK hX rfl) $$ H10
    iintro %X' %hX' H10
    iapply (ih (q + 1) _ _ (maximumf acc (R q)) X' (fun j h64 hn h1 h2 => hR j h64 hn (by omega) (by omega)) hX') $$ [H9 H10]
    · isplitl [H9]; · iexact H9
      iexact H10
    iintro %X2 %hX2 H9 H10
    rw [show q + 1 + n = q + (n + 1) from by omega] at hX2
    iapply Hk $$ %X2 %hX2 H9 H10

theorem wp_rawRowsK {st : FVec F H512x256 .f32} {T : Tile} {R : Nat → FVec F H8x128 .f32}
    {K : FVec F H8x128 .f32 → Prog (TpuEff nD τ sig (Elt F) Λ .tc) PUnit} {Q : PUnit → sProp 𝕄}
    (n : Nat) : ∀ (q : Nat) (hq : q + n ≤ 64) (acc : FVec F H8x128 .f32) (X : FVec F HS .f32)
    (hR : ∀ j (h64 : j < 64), q ≤ j → j < q + n → R j = rawRow st T.c0 T.hc j h64)
    (hX : Holds T X q R),
    own c arg10 X ⊢ iprop((∀ X' : FVec F HS .f32, ⌜Holds T X' (q + n) R⌝ -∗ own c arg10 X' -∗ WP defs c (K (accMax R n q acc)) Q)
      -∗ WP defs c (rawRowsK arg10 st T n q hq acc K) Q) := by
  induction n with
  | zero =>
    intro q hq acc X hR hX
    unfold rawRowsK
    iintro H10 Hk
    iapply Hk $$ %X %hX H10
  | succ n ih =>
    intro q hq acc X hR hX
    unfold rawRowsK
    iintro H10 Hk
    rw [← hR q (by omega) (by omega) (by omega)]
    iapply (wp_putK hX rfl) $$ H10
    iintro %X' %hX' H10
    iapply (ih (q + 1) _ (maximumf acc (R q)) X' (fun j h64 h1 h2 => hR j h64 (by omega) (by omega)) hX') $$ H10
    iintro %X2 %hX2 H10
    rw [show q + 1 + n = q + (n + 1) from by omega] at hX2
    iapply Hk $$ %X2 %hX2 H10

/-- The lanewise maximum of rows `q … q+n`. -/
abbrev rowMax (R : Nat → FVec F H8x128 .f32) (q n : Nat) : FVec F H8x128 .f32 := accMax R n (q + 1) (R q)

theorem wp_nearK {st : FVec F H512x256 .f32} {z : F .f32} {T : Tile} {R : Nat → FVec F H8x128 .f32} {t : FVec F HT .f32}
    {K : FVec F H8x128 .f32 → Prog (TpuEff nD τ sig (Elt F) Λ .tc) PUnit} {Q : PUnit → sProp 𝕄}
    (n q : Nat) (hq : q + (n + 1) ≤ 64) (hn : 8 * (q + (n + 1)) + 96 ≤ 320 + T.i0) (X : FVec F HS .f32)
    (hR : ∀ j (h64 : j < 64) (hn : 8 * j + 96 - T.i0 + 8 ≤ 320), q ≤ j → j < q + (n + 1) → R j = nearRowOf st z T j h64 (ld t (T.rectT j hn)))
    (hX : Holds T X q R) :
    iprop(own c arg9 t ∗ own c arg10 X) ⊢ iprop((∀ X' : FVec F HS .f32, ⌜Holds T X' (q + (n + 1)) R⌝ -∗ own c arg9 t -∗ own c arg10 X' -∗ WP defs c (K (rowMax R q n)) Q)
      -∗ WP defs c (nearK arg9 arg10 st z T n q hq hn K) Q) := by
  unfold nearK nearRowK
  iintro ⟨H9, H10⟩ Hk
  iapply wp_ld $$ H9
  iintro H9
  rw [← hR q (by omega) (by omega) (by omega) (by omega)]
  iapply (wp_putK hX rfl) $$ H10
  iintro %X' %hX' H10
  iapply (wp_nearRowsK n (q + 1) _ _ (R q) X' (fun j h64 hn h1 h2 => hR j h64 hn (by omega) (by omega)) hX') $$ [H9 H10]
  · isplitl [H9]; · iexact H9
    iexact H10
  iintro %X2 %hX2 H9 H10
  rw [show q + 1 + n = q + (n + 1) from by omega] at hX2
  iapply Hk $$ %X2 %hX2 H9 H10

theorem wp_rawK {st : FVec F H512x256 .f32} {T : Tile} {R : Nat → FVec F H8x128 .f32}
    {K : FVec F H8x128 .f32 → Prog (TpuEff nD τ sig (Elt F) Λ .tc) PUnit} {Q : PUnit → sProp 𝕄}
    (n q : Nat) (hq : q + (n + 1) ≤ 64) (X : FVec F HS .f32)
    (hR : ∀ j (h64 : j < 64), q ≤ j → j < q + (n + 1) → R j = rawRow st T.c0 T.hc j h64)
    (hX : Holds T X q R) :
    own c arg10 X ⊢ iprop((∀ X' : FVec F HS .f32, ⌜Holds T X' (q + (n + 1)) R⌝ -∗ own c arg10 X' -∗ WP defs c (K (rowMax R q n)) Q)
      -∗ WP defs c (rawK arg10 st T n q hq K) Q) := by
  unfold rawK
  iintro H10 Hk
  rw [← hR q (by omega) (by omega) (by omega)]
  iapply (wp_putK hX rfl) $$ H10
  iintro %X' %hX' H10
  iapply (wp_rawRowsK n (q + 1) _ (R q) X' (fun j h64 h1 h2 => hR j h64 (by omega) (by omega)) hX') $$ H10
  iintro %X2 %hX2 H10
  rw [show q + 1 + n = q + (n + 1) from by omega] at hX2
  iapply Hk $$ %X2 %hX2 H10

theorem wp_expRowsK {E : FVec F H1x8x128 .f32 → FVec F H8x128 .f32} {T : Tile} {R R2 : Nat → FVec F H8x128 .f32} {X : FVec F HS .f32}
    (hX : Holds T X 64 R)
    {K : FVec F H8x128 .f32 → Prog (TpuEff nD τ sig (Elt F) Λ .tc) PUnit} {Q : PUnit → sProp 𝕄}
    (n : Nat) : ∀ (q : Nat) (hq : q + n ≤ 64) (acc : FVec F H8x128 .f32) (Y : FVec F HS .f32)
    (hR : ∀ j, q ≤ j → j < q + n → R2 j = E (shapeCast H1x8x128 (R j) casts_8_1))
    (hY : Holds T Y q R2),
    iprop(own c arg10 X ∗ own c arg11 Y) ⊢ iprop((∀ Y' : FVec F HS .f32, ⌜Holds T Y' (q + n) R2⌝ -∗ own c arg10 X -∗ own c arg11 Y' -∗ WP defs c (K (accSum R2 n q acc)) Q)
      -∗ WP defs c (expRowsK arg10 arg11 E T n q hq acc K) Q) := by
  induction n with
  | zero =>
    intro q hq acc Y hR hY
    unfold expRowsK
    iintro ⟨H9, H10⟩ Hk
    iapply Hk $$ %Y %hY H9 H10
  | succ n ih =>
    intro q hq acc Y hR hY
    unfold expRowsK
    iintro ⟨H9, H10⟩ Hk
    iapply wp_ld $$ H9
    iintro H9
    rw [hX q (by omega) (by omega), ← hR q (by omega) (by omega)]
    iapply (wp_putK hY rfl) $$ H10
    iintro %X' %hX' H10
    iapply (ih (q + 1) _ (addf acc (R2 q)) X' (fun j h1 h2 => hR j (by omega) (by omega)) hX') $$ [H9 H10]
    · isplitl [H9]; · iexact H9
      iexact H10
    iintro %X2 %hX2 H9 H10
    rw [show q + 1 + n = q + (n + 1) from by omega] at hX2
    iapply Hk $$ %X2 %hX2 H9 H10

/-! ## A tile's codes -/

/-- Thirty-two rows of exponentials, from the rows of eight. -/
def blk (E : Nat → FVec F H8x128 .f32) (k : Nat) : FVec F H1x32x128 .f32 :=
  fun p => shapeCast H1x8x128 (E (4 * k + (p 1).val / 8)) casts_8_1
    (fun | 0 => ⟨0, by decide⟩ | 1 => ⟨(p 1).val % 8, Nat.mod_lt _ (by decide)⟩ | 2 => ⟨(p 2).val, (p 2).isLt⟩)

theorem ld_blk {T : Tile} {Y : FVec F HS .f32} {E : Nat → FVec F H8x128 .f32} (h : Holds T Y 64 E) (k : Nat) (hk : k < 16) :
    ld Y (T.rect32 k hk) = blk E k := by
  funext p
  have hp1 : (p 1).val < 32 := (p 1).isLt
  have hq : 4 * k + (p 1).val / 8 < 64 := by omega
  unfold blk
  rw [← h (4 * k + (p 1).val / 8) hq hq]
  refine congrArg Y ?_
  funext a
  refine Fin.ext ?_
  have hp0 : (p 0).val < 1 := (p 0).isLt
  fin_cases a
  · simp [Rect.emb, Rect.unit]; omega
  · simp [Rect.emb, Rect.unit]; omega
  · simp [Rect.emb, Rect.unit]

/-- The sum of a tile's exponentials, eight lanes of it. -/
abbrev sumOf (E : Nat → FVec F H8x128 .f32) : FVec F H8x128 .f32 := accSum E 64 0 zero8

/-- A tile's codes from its exponentials. -/
def outC (E : Nat → FVec F H8x128 .f32) : FVec F H512x128 .fp8e4m3 :=
  codes fun k => code (ratio (invOf (sumOf E))) (blk E k.val)

/-- A tile's scale from its exponentials. -/
def outS (vs : F .f32) (E : Nat → FVec F H8x128 .f32) : FVec F H1x128 .f32 :=
  mulf (pow2 (expo (invOf (sumOf E)))) (broadcast H1x128 vs)

theorem wp_finishK {vs : F .f32} {T : Tile} {E : Nat → FVec F H8x128 .f32} {Y : FVec F HS .f32} (hY : Holds T Y 64 E)
    {s : FVec F H8x128 .f32} (hs : s = sumOf E)
    {K : FVec F H512x128 .fp8e4m3 → FVec F H1x128 .f32 → Prog (TpuEff nD τ sig (Elt F) Λ .tc) PUnit} {Q : PUnit → sProp 𝕄} :
    own c arg11 Y ⊢ iprop((own c arg11 Y -∗ WP defs c (K (outC E) (outS vs E)) Q) -∗ WP defs c (finishK arg11 vs T s K) Q) := by
  subst hs
  unfold finishK codeK
  iintro H Hk
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  iapply wp_ld $$ H; iintro H
  simp only [ld_blk hY]
  iapply Hk $$ H

/-! ## The three kinds of tile -/

/-- The scores of a tile as they lie in the scratch: rows `8 lo … 8 hi - 1` scaled and biased, the others unscaled. -/
def tileR (st : FVec F H512x256 .f32) (z : F .f32) (T : Tile) (t : FVec F HT .f32) (lo hi : Nat) (j : Nat) : FVec F H8x128 .f32 :=
  if h : j < 64 then
    if h2 : (lo ≤ j ∧ j < hi) ∧ 8 * j + 96 - T.i0 + 8 ≤ 320 then nearRowOf st z T j h (ld t (T.rectT j h2.2))
    else rawRow st T.c0 T.hc j h
  else zero8

theorem tileR_near {st : FVec F H512x256 .f32} {z : F .f32} {T : Tile} {t : FVec F HT .f32} {lo hi : Nat}
    (j : Nat) (h64 : j < 64) (hn : 8 * j + 96 - T.i0 + 8 ≤ 320) (h1 : lo ≤ j) (h2 : j < hi) :
    tileR st z T t lo hi j = nearRowOf st z T j h64 (ld t (T.rectT j hn)) := by
  unfold tileR
  rw [dif_pos h64, dif_pos ⟨⟨h1, h2⟩, hn⟩]

theorem tileR_far {st : FVec F H512x256 .f32} {z : F .f32} {T : Tile} {t : FVec F HT .f32} {lo hi : Nat}
    (j : Nat) (h64 : j < 64) (h : ¬ (lo ≤ j ∧ j < hi)) :
    tileR st z T t lo hi j = rawRow st T.c0 T.hc j h64 := by
  unfold tileR
  rw [dif_pos h64, dif_neg (fun h2 => h h2.1)]

/-- The exponentials of a tile with column maxima `m`. -/
def tileE (z fn fp : F .f32) (m : FVec F H1x128 .f32) (lo hi : Nat) (R : Nat → FVec F H8x128 .f32) (j : Nat) : FVec F H8x128 .f32 :=
  if j < lo then farExp z (shift fn m) (shapeCast H1x8x128 (R j) casts_8_1)
  else if j < hi then nearExp m (shapeCast H1x8x128 (R j) casts_8_1)
  else farExp z (shift fp m) (shapeCast H1x8x128 (R j) casts_8_1)

/-- Column maxima of a tile with no far stretch below the diagonal. -/
def maxA (z fp : F .f32) (n p : Nat) (R : Nat → FVec F H8x128 .f32) : FVec F H1x128 .f32 :=
  maximumf (colMax (rowMax R 0 n)) (farMax z fp (rowMax R (0 + (n + 1)) p))

/-- Column maxima of a tile with far stretches on both sides. -/
def maxB (z fn fp : F .f32) (l n p : Nat) (R : Nat → FVec F H8x128 .f32) : FVec F H1x128 .f32 :=
  maximumf (maximumf (farMax z fn (rowMax R 0 l)) (colMax (rowMax R (0 + (l + 1)) n))) (farMax z fp (rowMax R (0 + (l + 1) + (n + 1)) p))

/-- Column maxima of a tile with no far stretch above the diagonal. -/
def maxC (z fn : F .f32) (l n : Nat) (R : Nat → FVec F H8x128 .f32) : FVec F H1x128 .f32 :=
  maximumf (farMax z fn (rowMax R 0 l)) (colMax (rowMax R (0 + (l + 1)) n))

/-- The exponentials of each kind of tile. -/
def expA (st : FVec F H512x256 .f32) (z fn fp : F .f32) (T : Tile) (t : FVec F HT .f32) (n p : Nat) : Nat → FVec F H8x128 .f32 :=
  tileE z fn fp (maxA z fp n p (tileR st z T t 0 (n + 1))) 0 (n + 1) (tileR st z T t 0 (n + 1))
def expB (st : FVec F H512x256 .f32) (z fn fp : F .f32) (T : Tile) (t : FVec F HT .f32) (l n p : Nat) : Nat → FVec F H8x128 .f32 :=
  tileE z fn fp (maxB z fn fp l n p (tileR st z T t (l + 1) (l + 1 + (n + 1)))) (l + 1) (l + 1 + (n + 1)) (tileR st z T t (l + 1) (l + 1 + (n + 1)))
def expC (st : FVec F H512x256 .f32) (z fn fp : F .f32) (T : Tile) (t : FVec F HT .f32) (l n : Nat) : Nat → FVec F H8x128 .f32 :=
  tileE z fn fp (maxC z fn l n (tileR st z T t (l + 1) 64)) (l + 1) 64 (tileR st z T t (l + 1) 64)

/-- The three scratch buffers, the table reading `t` and the other two anything. -/
abbrev scr (c : Dev nD) (arg9 : Memref sig .tc .vmem HT .f32) (arg10 arg11 : Memref sig .tc .vmem HS .f32) (t : FVec F HT .f32) : sProp 𝕄 :=
  iprop(own c arg9 t ∗ (∃ X : FVec F HS .f32, own c arg10 X) ∗ (∃ Y : FVec F HS .f32, own c arg11 Y))

theorem wp_tileA {st : FVec F H512x256 .f32} {z fn fp vs : F .f32} {T : Tile} {t : FVec F HT .f32} {n p : Nat}
    {hq : (n + 1) + (p + 1) = 64} {hn : 8 * (n + 1) + 96 ≤ 320 + T.i0}
    {K : FVec F H512x128 .fp8e4m3 → FVec F H1x128 .f32 → Prog (TpuEff nD τ sig (Elt F) Λ .tc) PUnit} {Q : PUnit → sProp 𝕄} :
    scr c arg9 arg10 arg11 t ⊢ iprop((scr c arg9 arg10 arg11 t
        -∗ WP defs c (K (outC (expA st z fn fp T t n p)) (outS vs (expA st z fn fp T t n p))) Q)
      -∗ WP defs c (tileA arg9 arg10 arg11 st z fp vs T n p hq hn K) Q) := by
  unfold tileA
  iintro ⟨H9, ⟨%X, H10⟩, ⟨%Y, H11⟩⟩ Hk
  iapply (wp_nearK (R := tileR st z T t 0 (n + 1)) (t := t) n 0 _ _ X (fun j h64 hn h1 h2 => tileR_near j h64 hn h1 (by omega)) (holds_zero T X _)) $$ [H9 H10]
  · isplitl [H9]; · iexact H9
    iexact H10
  iintro %X1 %hX1 H9 H10
  iapply (wp_rawK (R := tileR st z T t 0 (n + 1)) p (0 + (n + 1)) _ X1 (fun j h64 h1 h2 => tileR_far j h64 (by omega)) hX1) $$ H10
  iintro %X2 %hX2 H10
  rw [show 0 + (n + 1) + (p + 1) = 64 from by omega] at hX2
  iapply (wp_expRowsK (R2 := expA st z fn fp T t n p) hX2 (n + 1) 0 _ zero8 Y (fun j h1 h2 => by
    unfold expA tileE; rw [if_neg (by omega), if_pos (by omega)]; rfl) (holds_zero T Y _)) $$ [H10 H11]
  · isplitl [H10]; · iexact H10
    iexact H11
  iintro %Y1 %hY1 H10 H11
  iapply (wp_expRowsK (R2 := expA st z fn fp T t n p) hX2 (p + 1) (0 + (n + 1)) _ _ Y1 (fun j h1 h2 => by
    unfold expA tileE; rw [if_neg (by omega), if_neg (by omega)]; rfl) hY1) $$ [H10 H11]
  · isplitl [H10]; · iexact H10
    iexact H11
  iintro %Y2 %hY2 H10 H11
  rw [show 0 + (n + 1) + (p + 1) = 64 from by omega] at hY2
  iapply (wp_finishK hY2 (by rw [← accSum_add, hq])) $$ H11
  iintro H11
  iapply Hk
  isplitl [H9]; · iexact H9
  isplitl [H10]; · iexists X2; iexact H10
  iexists Y2; iexact H11

theorem wp_tileB {st : FVec F H512x256 .f32} {z fn fp vs : F .f32} {T : Tile} {t : FVec F HT .f32} {l n p : Nat}
    {hq : (l + 1) + (n + 1) + (p + 1) = 64} {hn : 8 * ((l + 1) + (n + 1)) + 96 ≤ 320 + T.i0}
    {K : FVec F H512x128 .fp8e4m3 → FVec F H1x128 .f32 → Prog (TpuEff nD τ sig (Elt F) Λ .tc) PUnit} {Q : PUnit → sProp 𝕄} :
    scr c arg9 arg10 arg11 t ⊢ iprop((scr c arg9 arg10 arg11 t
        -∗ WP defs c (K (outC (expB st z fn fp T t l n p)) (outS vs (expB st z fn fp T t l n p))) Q)
      -∗ WP defs c (tileB arg9 arg10 arg11 st z fn fp vs T l n p hq hn K) Q) := by
  unfold tileB
  iintro ⟨H9, ⟨%X, H10⟩, ⟨%Y, H11⟩⟩ Hk
  iapply (wp_rawK (R := tileR st z T t (l + 1) (l + 1 + (n + 1))) l 0 _ X (fun j h64 h1 h2 => tileR_far j h64 (by omega)) (holds_zero T X _)) $$ H10
  iintro %X0 %hX0 H10
  iapply (wp_nearK (R := tileR st z T t (l + 1) (l + 1 + (n + 1))) (t := t) n (0 + (l + 1)) _ _ X0 (fun j h64 hn h1 h2 => tileR_near j h64 hn (by omega) (by omega)) hX0) $$ [H9 H10]
  · isplitl [H9]; · iexact H9
    iexact H10
  iintro %X1 %hX1 H9 H10
  iapply (wp_rawK (R := tileR st z T t (l + 1) (l + 1 + (n + 1))) p (0 + (l + 1) + (n + 1)) _ X1 (fun j h64 h1 h2 => tileR_far j h64 (by omega)) hX1) $$ H10
  iintro %X2 %hX2 H10
  rw [show 0 + (l + 1) + (n + 1) + (p + 1) = 64 from by omega] at hX2
  iapply (wp_expRowsK (R2 := expB st z fn fp T t l n p) hX2 (l + 1) 0 _ zero8 Y (fun j h1 h2 => by
    unfold expB tileE; rw [if_pos (by omega)]; rfl) (holds_zero T Y _)) $$ [H10 H11]
  · isplitl [H10]; · iexact H10
    iexact H11
  iintro %Y0 %hY0 H10 H11
  iapply (wp_expRowsK (R2 := expB st z fn fp T t l n p) hX2 (n + 1) (0 + (l + 1)) _ _ Y0 (fun j h1 h2 => by
    unfold expB tileE; rw [if_neg (by omega), if_pos (by omega)]; rfl) hY0) $$ [H10 H11]
  · isplitl [H10]; · iexact H10
    iexact H11
  iintro %Y1 %hY1 H10 H11
  iapply (wp_expRowsK (R2 := expB st z fn fp T t l n p) hX2 (p + 1) (0 + (l + 1) + (n + 1)) _ _ Y1 (fun j h1 h2 => by
    unfold expB tileE; rw [if_neg (by omega), if_neg (by omega)]; rfl) hY1) $$ [H10 H11]
  · isplitl [H10]; · iexact H10
    iexact H11
  iintro %Y2 %hY2 H10 H11
  rw [show 0 + (l + 1) + (n + 1) + (p + 1) = 64 from by omega] at hY2
  iapply (wp_finishK hY2 (by rw [Nat.add_assoc 0, ← accSum_add, ← accSum_add, hq])) $$ H11
  iintro H11
  iapply Hk
  isplitl [H9]; · iexact H9
  isplitl [H10]; · iexists X2; iexact H10
  iexists Y2; iexact H11

theorem wp_tileC {st : FVec F H512x256 .f32} {z fn fp vs : F .f32} {T : Tile} {t : FVec F HT .f32} {l n : Nat}
    {hq : (l + 1) + (n + 1) = 64} {hn : 8 * ((l + 1) + (n + 1)) + 96 ≤ 320 + T.i0}
    {K : FVec F H512x128 .fp8e4m3 → FVec F H1x128 .f32 → Prog (TpuEff nD τ sig (Elt F) Λ .tc) PUnit} {Q : PUnit → sProp 𝕄} :
    scr c arg9 arg10 arg11 t ⊢ iprop((scr c arg9 arg10 arg11 t
        -∗ WP defs c (K (outC (expC st z fn fp T t l n)) (outS vs (expC st z fn fp T t l n))) Q)
      -∗ WP defs c (tileC arg9 arg10 arg11 st z fn vs T l n hq hn K) Q) := by
  unfold tileC
  iintro ⟨H9, ⟨%X, H10⟩, ⟨%Y, H11⟩⟩ Hk
  iapply (wp_rawK (R := tileR st z T t (l + 1) 64) l 0 _ X (fun j h64 h1 h2 => tileR_far j h64 (by omega)) (holds_zero T X _)) $$ H10
  iintro %X0 %hX0 H10
  iapply (wp_nearK (R := tileR st z T t (l + 1) 64) (t := t) n (0 + (l + 1)) _ _ X0 (fun j h64 hn h1 h2 => tileR_near j h64 hn (by omega) (by omega)) hX0) $$ [H9 H10]
  · isplitl [H9]; · iexact H9
    iexact H10
  iintro %X2 %hX2 H9 H10
  rw [show 0 + (l + 1) + (n + 1) = 64 from by omega] at hX2
  iapply (wp_expRowsK (R2 := expC st z fn fp T t l n) hX2 (l + 1) 0 _ zero8 Y (fun j h1 h2 => by
    unfold expC tileE; rw [if_pos (by omega)]; rfl) (holds_zero T Y _)) $$ [H10 H11]
  · isplitl [H10]; · iexact H10
    iexact H11
  iintro %Y0 %hY0 H10 H11
  iapply (wp_expRowsK (R2 := expC st z fn fp T t l n) hX2 (n + 1) (0 + (l + 1)) _ _ Y0 (fun j h1 h2 => by
    unfold expC tileE; rw [if_neg (by omega), if_pos (by omega)]; rfl) hY0) $$ [H10 H11]
  · isplitl [H10]; · iexact H10
    iexact H11
  iintro %Y2 %hY2 H10 H11
  rw [show 0 + (l + 1) + (n + 1) = 64 from by omega] at hY2
  iapply (wp_finishK hY2 (by rw [← accSum_add, hq])) $$ H11
  iintro H11
  iapply Hk
  isplitl [H9]; · iexact H9
  isplitl [H10]; · iexists X2; iexact H10
  iexists Y2; iexact H11

end T5
end
-- ==== Proof.Heads.lean ====
module

public import proofs.«01_k».proof.Proof.Run

@[expose] public section

noncomputable section

/-! One head pair, and one head of the bias table, run from readings of the memrefs. -/

namespace T5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable {defs : Defs nD τ sig (Elt F) Λ} {c : Dev nD}

/-- One word of scalar-memory readings. -/
def word {m n : Nat} (X : FVec F (⟨2, ![m, n]⟩ : Shape) .f32) (a b : Nat) (ha : a < m) (hb : b < n) : F .f32 :=
  ld X (Rect.unit (s := ⟨2, ![m, n]⟩) ![a, b] H1.size (inb_2 rfl ha hb)) (Shape.Idx.first (one_1.symm ▸ Nat.one_pos))

theorem wp_wordK {m n : Nat} {arg : Memref sig .tc .smem ⟨2, ![m, n]⟩ .f32} {X : FVec F (⟨2, ![m, n]⟩ : Shape) .f32}
    {a b : Nat} {ha : a < m} {hb : b < n} {K : F .f32 → Prog (TpuEff nD τ sig (Elt F) Λ .tc) PUnit} {Q : PUnit → sProp 𝕄} :
    own c arg X ⊢ iprop((own c arg X -∗ WP defs c (K (word X a b ha hb)) Q) -∗ WP defs c (wordK arg a b ha hb K) Q) := by
  unfold wordK
  iintro H Hk
  iapply wp_ld $$ H
  iintro H
  iapply Hk $$ H

variable {arg9 : Memref sig .tc .vmem HT .f32} {arg10 arg11 : Memref sig .tc .vmem HS .f32}
variable {arg1 arg2 arg3 : Memref sig .tc .smem HSc .f32} {arg4 : Memref sig .tc .smem HBi .f32}
  {arg5 arg6 arg7 : Memref sig .tc .vmem HQ .fp8e4m3} {arg8 : Memref sig .tc .vmem HO .bf16}
variable {X1 X2 X3 : FVec F HSc .f32} {X4 : FVec F HBi .f32} {X5 X6 X7 : FVec F HQ .fp8e4m3} {t : FVec F HT .f32}

/-- Columns `o … o + 255` of the queries of head `H`. -/
def qOf (X5 : FVec F HQ .fp8e4m3) (H o : Nat) (hH : H < 16) (ho : o + 256 ≤ 512) : FVec F H1x1x64x256 .fp8e4m3 :=
  ld X5 (Rect.unit (s := HQ) ![0, H, 0, o] H1x1x64x256.size (inb_q hH ho))

/-- The keys, or the values, of head `H`. -/
def kOf (X : FVec F HQ .fp8e4m3) (H : Nat) (hH : H < 16) : FVec F H1x1x64x512 .fp8e4m3 :=
  ld X (Rect.unit (s := HQ) ![0, H, 0, 0] H1x1x64x512.size (inb_q hH (by decide)))

section pair

variable (z fp fn vs : F .f32) (k v : FVec F H1x1x64x512 .fp8e4m3) (q : FVec F H1x1x64x256 .fp8e4m3) (t : FVec F HT .f32)
  (slot H : Nat) (hs : slot + 1 ≤ 2) (hH : H < 16)

/-- The exponentials of the four tiles of a head. -/
def e0 : Nat → FVec F H8x128 .f32 := expA (scores k q) z fn fp ⟨slot, 0, 0, H, hs, by decide, by decide, hH⟩ t 27 35
def e1 : Nat → FVec F H8x128 .f32 := expB (scores k q) z fn fp ⟨slot, 128, 128, H, hs, by decide, by decide, hH⟩ t 3 39 19
def e2 : Nat → FVec F H8x128 .f32 := expB (scores k q) z fn fp ⟨slot, 256, 0, H, hs, by decide, by decide, hH⟩ t 19 39 3
def e3 : Nat → FVec F H8x128 .f32 := expC (scores k q) z fn fp ⟨slot, 384, 128, H, hs, by decide, by decide, hH⟩ t 35 27

/-- The outputs of the first pair of tiles of a head. -/
def p0 : FVec F H64x256 .f32 :=
  pairOut v (outC (e0 z fp fn k q t slot H hs hH)) (outC (e1 z fp fn k q t slot H hs hH))
    (outS vs (e0 z fp fn k q t slot H hs hH)) (outS vs (e1 z fp fn k q t slot H hs hH))

/-- The outputs of the second pair of tiles of a head. -/
def p1 : FVec F H64x256 .f32 :=
  pairOut v (outC (e2 z fp fn k q t slot H hs hH)) (outC (e3 z fp fn k q t slot H hs hH))
    (outS vs (e2 z fp fn k q t slot H hs hH)) (outS vs (e3 z fp fn k q t slot H hs hH))

end pair

theorem wp_pair0K {z fp fn vs : F .f32} {k v : FVec F H1x1x64x512 .fp8e4m3} {slot H : Nat} {hs : slot + 1 ≤ 2} {hH : H < 16}
    {K : FVec F H64x256 .f32 → Prog (TpuEff nD τ sig (Elt F) Λ .tc) PUnit} {Q : PUnit → sProp 𝕄} :
    iprop(own c arg5 X5 ∗ scr c arg9 arg10 arg11 t) ⊢ iprop((own c arg5 X5 -∗ scr c arg9 arg10 arg11 t
        -∗ WP defs c (K (p0 z fp fn vs k v (qOf X5 H 0 hH (by decide)) t slot H hs hH)) Q)
      -∗ WP defs c (pair0K arg9 arg10 arg11 arg5 z fp fn vs k v slot H hs hH K) Q) := by
  unfold pair0K
  iintro ⟨H5, Hs⟩ Hk
  iapply wp_ld $$ H5
  iintro H5
  iapply wp_tileA $$ Hs
  iintro Hs
  iapply wp_tileB $$ Hs
  iintro Hs
  iapply Hk $$ H5 Hs

theorem wp_pair1K {z fp fn vs : F .f32} {k v : FVec F H1x1x64x512 .fp8e4m3} {slot H : Nat} {hs : slot + 1 ≤ 2} {hH : H < 16}
    {K : FVec F H64x256 .f32 → Prog (TpuEff nD τ sig (Elt F) Λ .tc) PUnit} {Q : PUnit → sProp 𝕄} :
    iprop(own c arg5 X5 ∗ scr c arg9 arg10 arg11 t) ⊢ iprop((own c arg5 X5 -∗ scr c arg9 arg10 arg11 t
        -∗ WP defs c (K (p1 z fp fn vs k v (qOf X5 H 256 hH (by decide)) t slot H hs hH)) Q)
      -∗ WP defs c (pair1K arg9 arg10 arg11 arg5 z fp fn vs k v slot H hs hH K) Q) := by
  unfold pair1K
  iintro ⟨H5, Hs⟩ Hk
  iapply wp_ld $$ H5
  iintro H5
  iapply wp_tileB $$ Hs
  iintro Hs
  iapply wp_tileC $$ Hs
  iintro Hs
  iapply Hk $$ H5 Hs

/-- The seven inputs of a grid point, reading `X1 … X7`. -/
abbrev ins (c : Dev nD) (arg1 arg2 arg3 : Memref sig .tc .smem HSc .f32) (arg4 : Memref sig .tc .smem HBi .f32)
    (arg5 arg6 arg7 : Memref sig .tc .vmem HQ .fp8e4m3)
    (X1 X2 X3 : FVec F HSc .f32) (X4 : FVec F HBi .f32) (X5 X6 X7 : FVec F HQ .fp8e4m3) : sProp 𝕄 :=
  iprop(own c arg1 X1 ∗ own c arg2 X2 ∗ own c arg3 X3 ∗ own c arg4 X4 ∗ own c arg5 X5 ∗ own c arg6 X6 ∗ own c arg7 X7)

/-- The outputs of one head: values × queries. -/
def headOut (X1 X2 X3 : FVec F HSc .f32) (X4 : FVec F HBi .f32) (X5 X6 X7 : FVec F HQ .fp8e4m3) (t : FVec F HT .f32) (l : F .f32)
    (slot H b : Nat) (hs : slot + 1 ≤ 2) (hH : H < 16) (hb : b < 24) : FVec F H64x512 .f32 :=
  let z := Scalar.mulf (Scalar.mulf (word X1 H b hH hb) (word X2 H b hH hb)) l
  let fp := Scalar.mulf (word X4 H 31 hH (by decide)) l
  let fn := Scalar.mulf (word X4 H 15 hH (by decide)) l
  let vs := word X3 H b hH hb
  concatenate H64x512 1 [⟨H64x256, p0 z fp fn vs (kOf X6 H hH) (kOf X7 H hH) (qOf X5 H 0 hH (by decide)) t slot H hs hH⟩,
    ⟨H64x256, p1 z fp fn vs (kOf X6 H hH) (kOf X7 H hH) (qOf X5 H 256 hH (by decide)) t slot H hs hH⟩] cat2o

theorem wp_headK {l : F .f32} {slot H b : Nat} {hs : slot + 1 ≤ 2} {hH : H < 16} {hb : b < 24}
    {K : FVec F H64x512 .f32 → Prog (TpuEff nD τ sig (Elt F) Λ .tc) PUnit} {Q : PUnit → sProp 𝕄} :
    iprop(ins c arg1 arg2 arg3 arg4 arg5 arg6 arg7 X1 X2 X3 X4 X5 X6 X7 ∗ scr c arg9 arg10 arg11 t)
      ⊢ iprop((ins c arg1 arg2 arg3 arg4 arg5 arg6 arg7 X1 X2 X3 X4 X5 X6 X7 -∗ scr c arg9 arg10 arg11 t
        -∗ WP defs c (K (headOut X1 X2 X3 X4 X5 X6 X7 t l slot H b hs hH hb)) Q)
      -∗ WP defs c (headK arg9 arg10 arg11 arg1 arg2 arg3 arg4 arg5 arg6 arg7 l slot H b hs hH hb K) Q) := by
  unfold headK
  iintro ⟨⟨H1, H2, H3, H4, H5, H6, H7⟩, Hs⟩ Hk
  iapply wp_wordK $$ H1
  iintro H1
  iapply wp_wordK $$ H2
  iintro H2
  iapply wp_wordK $$ H3
  iintro H3
  iapply wp_wordK $$ H4
  iintro H4
  iapply wp_wordK $$ H4
  iintro H4
  iapply wp_ld $$ H6
  iintro H6
  iapply wp_ld $$ H7
  iintro H7
  iapply wp_pair0K $$ [H5 Hs]
  · isplitl [H5]; · iexact H5
    iexact Hs
  iintro H5 Hs
  iapply wp_pair1K $$ [H5 Hs]
  · isplitl [H5]; · iexact H5
    iexact Hs
  iintro H5 Hs
  iapply Hk $$ [H1 H2 H3 H4 H5 H6 H7] Hs
  isplitl [H1]; · iexact H1
  isplitl [H2]; · iexact H2
  isplitl [H3]; · iexact H3
  isplitl [H4]; · iexact H4
  isplitl [H5]; · iexact H5
  isplitl [H6]; · iexact H6
  iexact H7

/-- What a pair of heads writes. -/
def tripOut (X1 X2 X3 : FVec F HSc .f32) (X4 : FVec F HBi .f32) (X5 X6 X7 : FVec F HQ .fp8e4m3) (t : FVec F HT .f32) (l : F .f32)
    (H0 H1 b : Nat) (h0 : H0 < 16) (h1 : H1 < 16) (hb : b < 24) : FVec F H1x512x128 .bf16 :=
  outOf (headOut X1 X2 X3 X4 X5 X6 X7 t l 0 H0 b (by decide) h0 hb) (headOut X1 X2 X3 X4 X5 X6 X7 t l 1 H1 b (by decide) h1 hb)

theorem wp_tripK {l : F .f32} {H0 H1 b o : Nat} {h0 : H0 < 16} {h1 : H1 < 16} {hb : b < 24} {ho : o + 128 ≤ 1024}
    {hst : (arg8.access (rectO o ho)).Stores Finset.univ} {X8 : FVec F HO .bf16} {Q : PUnit → sProp 𝕄} :
    iprop(ins c arg1 arg2 arg3 arg4 arg5 arg6 arg7 X1 X2 X3 X4 X5 X6 X7 ∗ own c arg8 X8 ∗ scr c arg9 arg10 arg11 t)
      ⊢ iprop((ins c arg1 arg2 arg3 arg4 arg5 arg6 arg7 X1 X2 X3 X4 X5 X6 X7
          -∗ own c arg8 (upd X8 (rectO o ho) (tripOut X1 X2 X3 X4 X5 X6 X7 t l H0 H1 b h0 h1 hb)) -∗ scr c arg9 arg10 arg11 t -∗ Q ⟨⟩)
      -∗ WP defs c (tripK arg9 arg10 arg11 arg1 arg2 arg3 arg4 arg5 arg6 arg7 arg8 l H0 H1 b o h0 h1 hb ho hst) Q) := by
  unfold tripK tripOut
  iintro ⟨Hi, H8, Hs⟩ Hk
  iapply wp_headK $$ [Hi Hs]
  · isplitl [Hi]; · iexact Hi
    iexact Hs
  iintro Hi Hs
  iapply wp_headK $$ [Hi Hs]
  · isplitl [Hi]; · iexact Hi
    iexact Hs
  iintro Hi Hs
  iapply wp_ld $$ H8
  iintro H8
  iapply wp_st $$ H8
  iintro H8
  iapply (le_wp_ret _ _)
  iapply Hk $$ Hi H8 Hs

/-! ## The bias table -/

abbrev HR : Shape := ⟨2, ![320, 128]⟩
abbrev H1xR : Shape := ⟨3, ![1, 320, 128]⟩

theorem iota0 : HR.Iotas .tc 32 [0] := by decide
theorem iota1 : HR.Iotas .tc 32 [1] := by decide
theorem casts_R : HR.ShapeCasts H1xR := by decide
theorem pos_R : 0 < H1xR.numel := by decide

/-- Key position minus query position, over the table. -/
def dist : IVec HR 32 := subi (addi (iota .tc HR 32 [0] iota0) (broadcast HR 4294967200#32)) (iota .tc HR 32 [1] iota1)

/-- The table's rows of one head after the edges `es`, from the words of the head. -/
def edges (w : Nat → F .f32) : List (BitVec 32) → Nat → FVec F HR .f32 → FVec F HR .f32
  | [], _, x => x
  | e :: es, j, x => edges w es (j + 1) (select (cmpi .sge (absi dist) (broadcast HR e)) (broadcast HR (w j)) x)

/-- The distances at which the bucket changes. -/
def edgeList : List (BitVec 32) := [1#32, 2#32, 3#32, 4#32, 5#32, 6#32, 7#32, 8#32, 12#32, 16#32, 23#32, 32#32, 46#32, 64#32, 91#32]

/-- The table of one head. -/
def tabOf (l : F .f32) (neg pos : FVec F HR .f32) : FVec F H1xR .f32 :=
  shapeCast H1xR (mulf (select (cmpi .sgt dist (broadcast HR 0#32)) pos neg) (broadcast HR l)) casts_R

variable (arg4 arg9)

/-- The words of the head, edge by edge. -/
def edgesK (h : Nat) (hh : h < 16) (K : FVec F HR .f32 → FVec F HR .f32 → Prog (TpuEff nD τ sig (Elt F) Λ .tc) PUnit) :
    List (BitVec 32) → Nat → FVec F HR .f32 → FVec F HR .f32 → Prog (TpuEff nD τ sig (Elt F) Λ .tc) PUnit
  | [], _, x, y => K x y
  | e :: es, j, x, y =>
    if hj : 16 + j < 32 then
      wordK arg4 h j hh (Nat.lt_of_le_of_lt (Nat.le_add_left j 16) hj) fun a => wordK arg4 h (16 + j) hh hj fun b =>
        edgesK h hh K es (j + 1) (select (cmpi .sge (absi dist) (broadcast HR e)) (broadcast HR a) x)
          (select (cmpi .sge (absi dist) (broadcast HR e)) (broadcast HR b) y)
    else .ret ⟨⟩

theorem inb_t {h : Nat} (hh : h < 16) : ∀ x, (![h, 0, 0] : Fin 3 → Nat) x + H1xR.size x ≤ HT.size x :=
  fun x => by fin_cases x <;> simp <;> omega

/-- The table rows of head `h`. -/
abbrev rectH (h : Nat) (hh : h < 16) : Rect HT := Rect.unit (s := HT) ![h, 0, 0] H1xR.size (inb_t hh)

/-- One head of the table. -/
def tabK (l : F .f32) (h : Nat) (hh : h < 16) : Prog (TpuEff nD τ sig (Elt F) Λ .tc) PUnit :=
  wordK arg4 h 0 hh (by decide) fun a => wordK arg4 h 16 hh (by decide) fun b =>
  edgesK arg4 h hh (fun x y =>
    .op (.load arg9 (rectH h hh).toLoadRect (View.loadsAt_vmem pos_R)) fun _ =>
    .op (.store arg9 (rectH h hh) (tabOf l x y) Finset.univ (View.stores_vmem_bits_univ pos_R rfl) (.inl rfl)) fun _ => .ret ⟨⟩)
    edgeList 1 (broadcast HR a) (broadcast HR b)

variable {arg4 arg9}

/-- The word of head `h` at column `j` (any value past the end). -/
def bw (X4 : FVec F HBi .f32) (h : Nat) (hh : h < 16) (j : Nat) : F .f32 :=
  if hj : j < 32 then word X4 h j hh hj else Scalar.ofBits .f32 0#32

theorem wp_edgesK {h : Nat} {hh : h < 16} {K : FVec F HR .f32 → FVec F HR .f32 → Prog (TpuEff nD τ sig (Elt F) Λ .tc) PUnit}
    {Q : PUnit → sProp 𝕄} (es : List (BitVec 32)) : ∀ (j : Nat) (x y : FVec F HR .f32), 16 + j + es.length ≤ 32 →
    own c arg4 X4 ⊢ iprop((own c arg4 X4 -∗ WP defs c (K (edges (bw X4 h hh) es j x) (edges (fun i => bw X4 h hh (16 + i)) es j y)) Q)
      -∗ WP defs c (edgesK arg4 h hh K es j x y) Q) := by
  induction es with
  | nil =>
    intro j x y _
    unfold edgesK edges
    iintro H Hk
    iapply Hk $$ H
  | cons e es ih =>
    intro j x y hl
    rw [List.length_cons] at hl
    have hj : 16 + j < 32 := by omega
    have hj' : j < 32 := by omega
    unfold edgesK edges
    rw [dif_pos hj]
    iintro H Hk
    iapply wp_wordK $$ H
    iintro H
    iapply wp_wordK $$ H
    iintro H
    iapply (ih (j + 1) _ _ (by omega)) $$ H
    iintro H
    rw [show word X4 h j hh hj' = bw X4 h hh j from (dif_pos hj').symm, show word X4 h (16 + j) hh hj = bw X4 h hh (16 + j) from (dif_pos hj).symm]
    iapply Hk $$ H

/-- The table's rows of head `h`. -/
def tabHead (X4 : FVec F HBi .f32) (l : F .f32) (h : Nat) (hh : h < 16) : FVec F H1xR .f32 :=
  tabOf l (edges (bw X4 h hh) edgeList 1 (broadcast HR (bw X4 h hh 0)))
    (edges (fun i => bw X4 h hh (16 + i)) edgeList 1 (broadcast HR (bw X4 h hh 16)))

theorem wp_tabK {l : F .f32} {h : Nat} {hh : h < 16} {Q : PUnit → sProp 𝕄} :
    iprop(own c arg4 X4 ∗ own c arg9 t) ⊢ iprop((own c arg4 X4 -∗ own c arg9 (upd t (rectH h hh) (tabHead X4 l h hh)) -∗ Q ⟨⟩)
      -∗ WP defs c (tabK arg9 arg4 l h hh) Q) := by
  unfold tabK tabHead
  rw [show bw X4 h hh 0 = word X4 h 0 hh (by decide) from dif_pos (by decide), show bw X4 h hh 16 = word X4 h 16 hh (by decide) from dif_pos (by decide)]
  iintro ⟨H4, H9⟩ Hk
  iapply wp_wordK $$ H4
  iintro H4
  iapply wp_wordK $$ H4
  iintro H4
  iapply (wp_edgesK edgeList 1 _ _ (by decide)) $$ H4
  iintro H4
  iapply wp_ld $$ H9
  iintro H9
  iapply wp_st $$ H9
  iintro H9
  iapply (le_wp_ret _ _)
  iapply Hk $$ H4 H9

/-! ## The whole block -/

/-- The whole bias table. -/
def tabFull (X4 : FVec F HBi .f32) (l : F .f32) : FVec F HT .f32 :=
  fun p => tabHead X4 l (p 0).val (p 0).isLt (fun | 0 => ⟨0, by decide⟩ | 1 => ⟨(p 1).val, (p 1).isLt⟩ | 2 => ⟨(p 2).val, (p 2).isLt⟩)

theorem rows_upd {X4 : FVec F HBi .f32} {l : F .f32} {t : FVec F HT .f32} {k h : Nat} (hh : h < 16) (e : h = k)
    (ht : ∀ p : HT.Idx, (p 0).val < k → t p = tabFull X4 l p) :
    ∀ p : HT.Idx, (p 0).val < k + 1 → upd t (rectH h hh) (tabHead X4 l h hh) p = tabFull X4 l p := by
  subst e
  intro p hp
  by_cases he : (p 0).val = h
  · have hp' : p = (rectH h hh).emb (fun | 0 => ⟨0, Nat.one_pos⟩ | 1 => ⟨(p 1).val, (p 1).isLt⟩ | 2 => ⟨(p 2).val, (p 2).isLt⟩) := by
      funext a
      refine Fin.ext ?_
      fin_cases a
      · simp [Rect.emb, Rect.unit, he]
      · simp [Rect.emb, Rect.unit]
      · simp [Rect.emb, Rect.unit]
    conv_lhs => rw [hp']
    rw [upd_emb]
    subst he
    rfl
  · rw [upd_of_not _ _ _ _ ?_, ht p (by omega)]
    rintro x rfl
    refine he ?_
    have hx : (x 0).val < 1 := (x 0).isLt
    simp [Rect.emb, Rect.unit]
    omega

/-- What a grid point writes. -/
def blockOut (X1 X2 X3 : FVec F HSc .f32) (X4 : FVec F HBi .f32) (X5 X6 X7 : FVec F HQ .fp8e4m3) (t : FVec F HT .f32) (l : F .f32)
    (b : Nat) (hb : b < 24) : FVec F HO .bf16 :=
  fun p => tripOut X1 X2 X3 X4 X5 X6 X7 t l (2 * ((p 2).val / 128)) (2 * ((p 2).val / 128) + 1) b
    (by have : (p 2).val < 1024 := (p 2).isLt; omega) (by have : (p 2).val < 1024 := (p 2).isLt; omega) hb
    (fun | 0 => ⟨0, by decide⟩ | 1 => ⟨(p 1).val, (p 1).isLt⟩ | 2 => ⟨(p 2).val % 128, Nat.mod_lt _ (by decide)⟩)

theorem cols_upd {X1 X2 X3 : FVec F HSc .f32} {X4 : FVec F HBi .f32} {X5 X6 X7 : FVec F HQ .fp8e4m3} {t : FVec F HT .f32} {l : F .f32}
    {b b' : Nat} {hb : b < 24} {hb' : b' < 24} (eb : b' = b) {X8 : FVec F HO .bf16} {k H0 H1 o : Nat} {h0 : H0 < 16} {h1 : H1 < 16} (ho : o + 128 ≤ 1024)
    (e0 : H0 = 2 * k) (e1 : H1 = 2 * k + 1) (eo : o = 128 * k)
    (h : ∀ p : HO.Idx, (p 2).val < 128 * k → X8 p = blockOut X1 X2 X3 X4 X5 X6 X7 t l b hb p) :
    ∀ p : HO.Idx, (p 2).val < 128 * (k + 1) →
      upd X8 (rectO o ho) (tripOut X1 X2 X3 X4 X5 X6 X7 t l H0 H1 b' h0 h1 hb') p = blockOut X1 X2 X3 X4 X5 X6 X7 t l b hb p := by
  subst e0 e1 eo eb
  intro p hp
  by_cases he : 128 * k ≤ (p 2).val
  · have hp' : p = (rectO (128 * k) ho).emb (fun | 0 => ⟨0, Nat.one_pos⟩ | 1 => ⟨(p 1).val, (p 1).isLt⟩ | 2 => ⟨(p 2).val % 128, Nat.mod_lt _ (Nat.succ_pos 127)⟩) := by
      funext a
      refine Fin.ext ?_
      have hp0 : (p 0).val < 1 := (p 0).isLt
      fin_cases a
      · simp [Rect.emb, Rect.unit]; omega
      · simp [Rect.emb, Rect.unit]
      · simp [Rect.emb, Rect.unit]; omega
    have hk : (p 2).val / 128 = k := by omega
    conv_lhs => rw [hp']
    rw [upd_emb]
    subst hk
    rfl
  · rw [upd_of_not _ _ _ _ ?_, h p (by omega)]
    rintro x rfl
    refine he ?_
    simp [Rect.emb, Rect.unit]

end T5
end
-- ==== Proof.Math.lean ====
module

public import Idealize.ShloMosaic.Lib.Pointwise
public import Idealize.ShloMosaic.Lib.Pipeline.Value
public import Mathlib.Analysis.SpecialFunctions.Pow.Real
public import Mathlib.Data.EReal.Operations
public import Mathlib.Data.EReal.Inv

@[expose] public section

noncomputable section

/-! The mathematics of one query of one head over the extended reals: softmax of a list of 512 scores, its
quantisation with a power-of-two scale, and the product with the values. -/

namespace T5

open Idealize.ShloMosaic

/-- One over the logarithm of two. -/
def L2 : EReal := ((Real.log 2)⁻¹ : ℝ)

/-- `log 2` is positive. -/
theorem log2_pos : 0 < Real.log 2 := Real.log_pos (by norm_num)
/-- `1 / log 2` is not negative. -/
theorem L2_nonneg : 0 ≤ L2 := EReal.coe_nonneg.2 (inv_nonneg.2 log2_pos.le)
/-- `1 / log 2` is positive. -/
theorem L2_pos : 0 < L2 := EReal.coe_pos.2 (inv_pos.2 log2_pos)
/-- `1 / log 2` is finite. -/
theorem L2_ne_top : L2 ≠ ⊤ := EReal.coe_ne_top _

/-- Multiplying by `1 / log 2` distributes over a sum. -/
theorem mul_L2_add (a b : EReal) : (a + b) * L2 = a * L2 + b * L2 :=
  EReal.right_distrib_of_nonneg_of_ne_top L2_nonneg L2_ne_top a b

/-- Two to the scaled power is the exponential. -/
theorem exp2_mul_L2 (z : EReal) : Ideal.exp2 (z * L2) = Ideal.exp z := by
  induction z using EReal.rec with
  | bot => rw [EReal.bot_mul_of_pos L2_pos]; rfl
  | top => rw [EReal.top_mul_of_pos L2_pos]; rfl
  | coe r =>
    have h : ((r : EReal) * L2) = ((r * (Real.log 2)⁻¹ : ℝ) : EReal) := by rw [L2, ← EReal.coe_mul]
    rw [h]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    field_simp [log2_pos.ne']

/-- The largest of the scores. -/
def mx (x : Fin 512 → EReal) : EReal := Finset.univ.fold max ⊥ x

/-- No score exceeds the largest. -/
theorem le_mx (x : Fin 512 → EReal) (k : Fin 512) : x k ≤ mx x := by
  unfold mx
  rw [Finset.le_fold_max]
  exact .inr ⟨k, Finset.mem_univ k, le_rfl⟩

/-- A bound of every score bounds the largest. -/
theorem mx_le {x : Fin 512 → EReal} {u : EReal} (h : ∀ k, x k ≤ u) : mx x ≤ u := by
  unfold mx
  rw [Finset.fold_max_le]
  exact ⟨bot_le, fun k _ => h k⟩

/-- The largest score is attained. -/
theorem exists_mx (x : Fin 512 → EReal) : ∃ k, x k = mx x := by
  obtain ⟨k, hk⟩ := Finite.exists_max x
  exact ⟨k, le_antisymm (le_mx x k) (mx_le hk)⟩

/-- `mx x` is the greatest of the scores. -/
theorem isGreatest_mx (x : Fin 512 → EReal) : IsGreatest (Set.range x) (mx x) :=
  ⟨exists_mx x, by rintro _ ⟨k, rfl⟩; exact le_mx x k⟩

/-- The weight of key `k`, before division by the sum. -/
def wt (x : Fin 512 → EReal) (k : Fin 512) : EReal := Ideal.exp (x k - mx x)
/-- One over the sum of the weights. -/
def rcp (x : Fin 512 → EReal) : EReal := Ideal.div 1 (∑ k, wt x k)
/-- The bits of `1 / 448`, as an extended real. -/
def C448 : EReal := Ideal.ofBits .f32 0x3B124925#32
/-- The word for -448. -/
def lo448 : EReal := Ideal.ofBits .f32 0xC3E00000#32
/-- The word for 448. -/
def hi448 : EReal := Ideal.ofBits .f32 0x43E00000#32
/-- A probability cut to the range of the codes. -/
def clip (p : EReal) : EReal := min hi448 (max lo448 p)

/-- The reference's exponent for a largest probability `a`. -/
def refExp (a : EReal) : EReal :=
  if 0 < a then Ideal.liftRound Int.floor (Ideal.div (Ideal.log (a * C448)) ((Real.log 2 : ℝ) : EReal)) + 1 else 0

/-- The reference's result for scores `x`, values `v` of one channel and value scale `vs`. -/
def refOut (x v : Fin 512 → EReal) (vs : EReal) : EReal :=
  (∑ k, v k * clip (wt x k * rcp x * Ideal.exp2 (0 - refExp (mx fun k => wt x k * rcp x))))
    * (Ideal.exp2 (refExp (mx fun k => wt x k * rcp x)) * vs)

/-- One if `y` is at least the number with the bits `b`. -/
def stepW (y : EReal) (b : BitVec 32) : BitVec 32 := if Ideal.ofBits .f32 b ≤ y then 1#32 else 0#32

/-- The kernel's exponent, as a word. -/
def kerExp (y : EReal) : BitVec 32 :=
  4294967279#32 + stepW y 0x37000000#32 + stepW y 0x37800000#32 + stepW y 0x38000000#32 + stepW y 0x38800000#32
    + stepW y 0x39000000#32 + stepW y 0x39800000#32 + stepW y 0x3A000000#32 + stepW y 0x3A800000#32 + stepW y 0x3B000000#32

/-- The kernel's result for the same. -/
def kerOut (x v : Fin 512 → EReal) (vs : EReal) : EReal :=
  (∑ k, v k * clip (wt x k * (rcp x * Ideal.ofBits .f32 ((127#32 - kerExp (rcp x * C448)) <<< 23))))
    * (Ideal.ofBits .f32 ((127#32 + kerExp (rcp x * C448)) <<< 23) * vs)

/-- Clipping leaves zero. -/
theorem clip_zero : clip 0 = 0 := by
  have h1 : lo448 = ((-448 : ℝ) : EReal) := by
    unfold lo448
    simp [Ideal.ofBits, Ideal.ieee]
    norm_num
    rw [← EReal.coe_mul]
    exact EReal.coe_eq_coe_iff.2 (by norm_num)
  have h2 : hi448 = ((448 : ℝ) : EReal) := by
    unfold hi448
    simp [Ideal.ofBits, Ideal.ieee]
    norm_num
    rw [← EReal.coe_mul]
    exact EReal.coe_eq_coe_iff.2 (by norm_num)
  unfold clip
  rw [h1, h2, max_eq_right (by rw [← EReal.coe_zero, EReal.coe_le_coe_iff]; norm_num),
    min_eq_right (by rw [← EReal.coe_zero, EReal.coe_le_coe_iff]; norm_num)]

/-- The value of the word for `1 / 448`. -/
theorem C448_eq : C448 = ((9586981 / 4294967296 : ℝ) : EReal) := by
  unfold C448
  simp [Ideal.ofBits, Ideal.ieee]
  norm_num
  rw [← EReal.coe_mul]
  exact EReal.coe_eq_coe_iff.2 (by norm_num)

/-! ## Scores whose maximum is infinite -/

/-- Where the largest score is infinite every weight is zero. -/
theorem wt_zero {x : Fin 512 → EReal} (h : mx x = ⊤ ∨ mx x = ⊥) (k : Fin 512) : wt x k = 0 := by
  unfold wt
  have : x k - mx x = ⊥ := by
    rcases h with h | h
    · rw [h]; exact EReal.sub_top _
    · have hk : x k = ⊥ := le_bot_iff.1 (h ▸ le_mx x k)
      rw [h, hk]; exact EReal.bot_sub _
  rw [this]; rfl

/-- Where the largest score is infinite the sum over the values is zero. -/
theorem out_zero {x : Fin 512 → EReal} (h : mx x = ⊤ ∨ mx x = ⊥) (v : Fin 512 → EReal) (vs : EReal) :
    refOut x v vs = kerOut x v vs := by
  unfold refOut kerOut
  simp only [wt_zero h, zero_mul, clip_zero, mul_zero, Finset.sum_const_zero]

/-! ## Scores whose maximum is a number -/

section finite

variable {x : Fin 512 → EReal} {μ : ℝ} (hm : mx x = (μ : EReal))
include hm

/-- A weight is a real between 0 and 1. -/
theorem wt_real (k : Fin 512) : ∃ r : ℝ, wt x k = (r : EReal) ∧ 0 ≤ r ∧ r ≤ 1 := by
  have hk : x k ≤ (μ : EReal) := hm ▸ le_mx x k
  unfold wt
  rw [hm]
  generalize x k = y at hk ⊢
  induction y using EReal.rec with
  | bot => exact ⟨0, by rw [EReal.bot_sub]; rfl, le_rfl, zero_le_one⟩
  | top => exact absurd hk (by simp)
  | coe r =>
    have hr : r ≤ μ := EReal.coe_le_coe_iff.1 hk
    refine ⟨Real.exp (r - μ), by rw [← EReal.coe_sub]; rfl, (Real.exp_pos _).le, Real.exp_le_one_iff.2 (by linarith)⟩

/-- Some weight is 1. -/
theorem wt_one : ∃ k, wt x k = ((1 : ℝ) : EReal) := by
  obtain ⟨k, hk⟩ := exists_mx x
  refine ⟨k, ?_⟩
  unfold wt
  rw [hk, hm, ← EReal.coe_sub, sub_self]
  show ((Real.exp 0 : ℝ) : EReal) = _
  rw [Real.exp_zero]

/-- The weights' sum is a real between 1 and 512. -/
theorem sum_real : ∃ T : ℝ, ∑ k, wt x k = (T : EReal) ∧ 1 ≤ T ∧ T ≤ 512 := by
  choose w hw h0 h1 using wt_real hm
  refine ⟨∑ k, w k, ?_, ?_, ?_⟩
  · rw [Finset.sum_congr rfl fun k _ => hw k]
    exact (map_sum (⟨⟨((↑) : ℝ → EReal), rfl⟩, EReal.coe_add⟩ : ℝ →+ EReal) w Finset.univ).symm
  · obtain ⟨k, hk⟩ := wt_one hm
    have e : w k = 1 := EReal.coe_injective (by rw [← hw k, hk])
    calc (1 : ℝ) = w k := e.symm
      _ ≤ ∑ k, w k := Finset.single_le_sum (fun i _ => h0 i) (Finset.mem_univ k)
  · calc ∑ k, w k ≤ ∑ _k : Fin 512, (1 : ℝ) := Finset.sum_le_sum fun i _ => h1 i
      _ = 512 := by simp

/-- The reciprocal of the sum is a real between 1/512 and 1. -/
theorem rcp_real : ∃ ρ : ℝ, rcp x = (ρ : EReal) ∧ 1 / 512 ≤ ρ ∧ ρ ≤ 1 := by
  obtain ⟨T, hT, h1, h2⟩ := sum_real hm
  have hp : 0 < T := by linarith
  refine ⟨T⁻¹, ?_, ?_, ?_⟩
  · unfold rcp Ideal.div
    rw [hT, if_neg (by rw [← EReal.coe_zero]; exact fun h => hp.ne' (EReal.coe_injective h)), one_mul, EReal.coe_inv]
  · rw [one_div]; exact inv_anti₀ hp h2
  · exact inv_le_one_of_one_le₀ h1

/-- The largest probability is the reciprocal of the sum. -/
theorem mx_prob {ρ : ℝ} (hρ : rcp x = (ρ : EReal)) (h0 : 0 ≤ ρ) : (mx fun k => wt x k * rcp x) = (ρ : EReal) := by
  apply le_antisymm
  · refine mx_le fun k => ?_
    obtain ⟨r, hr, h1, h2⟩ := wt_real hm k
    rw [hr, hρ, ← EReal.coe_mul, EReal.coe_le_coe_iff]
    nlinarith
  · obtain ⟨k, hk⟩ := wt_one hm
    refine le_trans (le_of_eq ?_) (le_mx _ k)
    simp only [hk, hρ, EReal.coe_one, one_mul]

end finite

/-- The word with exponent field `n` and no fraction is `2 ^ (n - 127)`. -/
theorem ofBits_pow (n : ℕ) (h0 : 0 < n) (h : n < 255) : Ideal.ofBits .f32 ((BitVec.ofNat 32 n) <<< 23) = (((2 : ℝ) ^ ((n : ℤ) - 127) : ℝ) : EReal) := by
  obtain ⟨a, b, d⟩ := (by decide +kernel : ∀ n : Fin 256, (((BitVec.ofNat 32 n.val) <<< 23).extractLsb' 31 1 == 1#1) = false
    ∧ (((BitVec.ofNat 32 n.val) <<< 23).extractLsb' 23 8).toNat = n.val ∧ (((BitVec.ofNat 32 n.val) <<< 23).extractLsb' 0 23).toNat = 0) ⟨n, by omega⟩
  simp only at a b d
  show Ideal.ieee 8 23 _ = _
  unfold Ideal.ieee
  simp only [Nat.reduceAdd, a, b, d]
  rw [if_neg (by omega), if_neg (by omega)]
  refine EReal.coe_eq_coe_iff.2 ?_
  rw [show ((n : ℤ) - (2 ^ (8 - 1) - 1) - ((23 : ℕ) : ℤ)) = ((n : ℤ) - 127) - 23 from by norm_num, zpow_sub₀ (by norm_num : (2 : ℝ) ≠ 0) _ 23]
  norm_num
  ring

/-- The kernel's word and the two powers it builds, at a number between 2⁻¹⁸ and 2⁻⁸. -/
theorem kerExp_spec (y : ℝ) (f : ℤ) (hf : f = ⌊Real.log y / Real.log 2⌋) (h0 : 0 < y) (hlo : -18 ≤ f) (hhi : f ≤ -9) :
    Ideal.ofBits .f32 ((127#32 + kerExp (y : EReal)) <<< 23) = (((2 : ℝ) ^ (f + 1) : ℝ) : EReal)
      ∧ Ideal.ofBits .f32 ((127#32 - kerExp (y : EReal)) <<< 23) = (((2 : ℝ) ^ (-(f + 1)) : ℝ) : EReal) := by
  have key : ∀ n : ℕ, 0 < n → n < 255 → (Ideal.ofBits .f32 ((BitVec.ofNat 32 n) <<< 23) ≤ (y : EReal) ↔ (n : ℤ) - 127 ≤ f) := by
    intro n h1 h2
    rw [ofBits_pow n h1 h2, EReal.coe_le_coe_iff, hf, Int.le_floor, le_div_iff₀ log2_pos,
      ← Real.log_rpow (by norm_num), Real.log_le_log_iff (by positivity) h0, ← Real.rpow_intCast]
  have k1 := key 110 (by decide) (by decide)
  have k2 := key 111 (by decide) (by decide)
  have k3 := key 112 (by decide) (by decide)
  have k4 := key 113 (by decide) (by decide)
  have k5 := key 114 (by decide) (by decide)
  have k6 := key 115 (by decide) (by decide)
  have k7 := key 116 (by decide) (by decide)
  have k8 := key 117 (by decide) (by decide)
  have k9 := key 118 (by decide) (by decide)
  have e : kerExp (y : EReal) = BitVec.ofInt 32 (f + 1) := by
    unfold kerExp stepW
    rw [show (0x37000000#32) = (BitVec.ofNat 32 110) <<< 23 from by decide, show (0x37800000#32) = (BitVec.ofNat 32 111) <<< 23 from by decide,
      show (0x38000000#32) = (BitVec.ofNat 32 112) <<< 23 from by decide, show (0x38800000#32) = (BitVec.ofNat 32 113) <<< 23 from by decide,
      show (0x39000000#32) = (BitVec.ofNat 32 114) <<< 23 from by decide, show (0x39800000#32) = (BitVec.ofNat 32 115) <<< 23 from by decide,
      show (0x3A000000#32) = (BitVec.ofNat 32 116) <<< 23 from by decide, show (0x3A800000#32) = (BitVec.ofNat 32 117) <<< 23 from by decide,
      show (0x3B000000#32) = (BitVec.ofNat 32 118) <<< 23 from by decide]
    simp only [k1, k2, k3, k4, k5, k6, k7, k8, k9]
    clear k1 k2 k3 k4 k5 k6 k7 k8 k9 key hf
    interval_cases f <;> decide
  rw [e]
  have c1 : ∀ g : ℤ, -17 ≤ g → g ≤ -8 → 127#32 + BitVec.ofInt 32 g = BitVec.ofNat 32 (127 + g).toNat ∧ 127#32 - BitVec.ofInt 32 g = BitVec.ofNat 32 (127 - g).toNat := by
    intro g h1 h2
    interval_cases g <;> decide
  obtain ⟨a, b⟩ := c1 (f + 1) (by omega) (by omega)
  rw [a, b, ofBits_pow _ (by omega) (by omega), ofBits_pow _ (by omega) (by omega)]
  constructor
  · rw [show (((127 + (f + 1)).toNat : ℕ) : ℤ) - 127 = f + 1 from by omega]
  · rw [show (((127 - (f + 1)).toNat : ℕ) : ℤ) - 127 = -(f + 1) from by omega]

/-- The two exponents give one result. -/
theorem refOut_eq_kerOut (x v : Fin 512 → EReal) (vs : EReal) : refOut x v vs = kerOut x v vs := by
  by_cases ht : mx x = ⊤
  · exact out_zero (.inl ht) v vs
  by_cases hb : mx x = ⊥
  · exact out_zero (.inr hb) v vs
  have hm : mx x = ((mx x).toReal : EReal) := (EReal.coe_toReal ht hb).symm
  obtain ⟨ρ, hρ, h1, h2⟩ := rcp_real hm
  have hp : 0 < ρ := lt_of_lt_of_le (by norm_num) h1
  have hy : 0 < ρ * (9586981 / 4294967296) := by positivity
  have hyC : rcp x * C448 = ((ρ * (9586981 / 4294967296) : ℝ) : EReal) := by rw [hρ, C448_eq, ← EReal.coe_mul]
  have hlog : ∀ n : ℤ, ((n : ℝ) * Real.log 2) = Real.log ((2 : ℝ) ^ n) := fun n => (Real.log_zpow 2 n).symm
  have lo : (-18 : ℤ) ≤ ⌊Real.log (ρ * (9586981 / 4294967296)) / Real.log 2⌋ := by
    rw [Int.le_floor, le_div_iff₀ log2_pos, hlog, Real.log_le_log_iff (by positivity) hy]
    norm_num
    linarith
  have hi : ⌊Real.log (ρ * (9586981 / 4294967296)) / Real.log 2⌋ ≤ (-9 : ℤ) := by
    rw [← Int.lt_add_one_iff, Int.floor_lt, div_lt_iff₀ log2_pos, hlog, Real.log_lt_log_iff hy (by positivity)]
    norm_num
    linarith
  obtain ⟨s1, s2⟩ := kerExp_spec _ _ rfl hy lo hi
  have hr : refExp (mx fun k => wt x k * rcp x) = (((⌊Real.log (ρ * (9586981 / 4294967296)) / Real.log 2⌋ + 1 : ℤ) : ℝ) : EReal) := by
    rw [mx_prob hm hρ hp.le]
    unfold refExp
    rw [if_pos (EReal.coe_pos.2 hp), ← hρ, hyC]
    have e1 : Ideal.log ((ρ * (9586981 / 4294967296) : ℝ) : EReal) = ((Real.log (ρ * (9586981 / 4294967296)) : ℝ) : EReal) := by
      show (if ρ * (9586981 / 4294967296) ≤ 0 then (⊥ : EReal) else _) = _
      rw [if_neg (not_le.2 hy)]
    rw [e1]
    unfold Ideal.div
    rw [if_neg (by rw [← EReal.coe_zero]; exact fun h => log2_pos.ne' (EReal.coe_injective h)), ← EReal.coe_inv, ← EReal.coe_mul, ← div_eq_mul_inv]
    show ((⌊_⌋ : ℝ) : EReal) + 1 = _
    push_cast
    rfl
  have p1 : Ideal.exp2 (refExp (mx fun k => wt x k * rcp x)) = Ideal.ofBits .f32 ((127#32 + kerExp (rcp x * C448)) <<< 23) := by
    rw [hr, hyC, s1]
    show ((Real.rpow 2 _ : ℝ) : EReal) = _
    exact congrArg _ (Real.rpow_intCast 2 _)
  have p2 : Ideal.exp2 (0 - refExp (mx fun k => wt x k * rcp x)) = Ideal.ofBits .f32 ((127#32 - kerExp (rcp x * C448)) <<< 23) := by
    rw [hr, hyC, s2, zero_sub, ← EReal.coe_neg, ← Int.cast_neg]
    show ((Real.rpow 2 _ : ℝ) : EReal) = _
    exact congrArg _ (Real.rpow_intCast 2 _)
  unfold refOut kerOut
  simp only [p1, p2, mul_assoc]

end T5
end
-- ==== Proof.Codes.lean ====
module

public import proofs.«01_k».proof.Proof.Struct
public import Idealize.ShloMosaic.Lib.Pipeline.Value
public import Idealize.ShloMosaic.Lib.Pointwise

@[expose] public section

noncomputable section

/-! A row of the codes is a row of one of the sixteen pieces they are put together from. -/

namespace T5

open Idealize.ShloMosaic

variable {F : FTy → Type} [FloatOps F]

/-- Row `k` of the sixteen tiles laid under one another is a row of tile `k / 32`. -/
theorem codes_apply (f : Fin 16 → FVec F H32x128 .fp8e4m3) (k : Fin 512) (i : Fin 128) :
    codes f (ix2 k i) = f ⟨k.val / 32, by omega⟩ (ix2 ⟨k.val % 32, Nat.mod_lt _ (by decide)⟩ i) := by
  have hx : ∀ n : Fin 16, ([⟨H32x128, f 0⟩, ⟨H32x128, f 1⟩, ⟨H32x128, f 2⟩, ⟨H32x128, f 3⟩, ⟨H32x128, f 4⟩, ⟨H32x128, f 5⟩,
      ⟨H32x128, f 6⟩, ⟨H32x128, f 7⟩, ⟨H32x128, f 8⟩, ⟨H32x128, f 9⟩, ⟨H32x128, f 10⟩, ⟨H32x128, f 11⟩, ⟨H32x128, f 12⟩,
      ⟨H32x128, f 13⟩, ⟨H32x128, f 14⟩, ⟨H32x128, f 15⟩] : List ((s : Shape) × (s.Idx → F .fp8e4m3)))[n.val]'n.isLt = ⟨H32x128, f n⟩ := by
    intro n
    fin_cases n <;> rfl
  have hs : ∀ n : Fin 16, ((([H32x128, H32x128, H32x128, H32x128, H32x128, H32x128, H32x128, H32x128, H32x128, H32x128, H32x128, H32x128,
      H32x128, H32x128, H32x128, H32x128] : List Shape).take n.val).map
        fun s => if h : s.rank = H512x128.rank then s.size ((0 : Fin 2).cast h.symm) else 0).sum = 32 * n.val := by
    decide
  have hn : k.val / 32 < 16 := by omega
  unfold codes
  refine concatenate_apply_piece (t := H512x128) 0 [⟨H32x128, f 0⟩, ⟨H32x128, f 1⟩, ⟨H32x128, f 2⟩, ⟨H32x128, f 3⟩, ⟨H32x128, f 4⟩, ⟨H32x128, f 5⟩,
    ⟨H32x128, f 6⟩, ⟨H32x128, f 7⟩, ⟨H32x128, f 8⟩, ⟨H32x128, f 9⟩, ⟨H32x128, f 10⟩, ⟨H32x128, f 11⟩, ⟨H32x128, f 12⟩,
    ⟨H32x128, f 13⟩, ⟨H32x128, f 14⟩, ⟨H32x128, f 15⟩] cat_codes (ix2 k i) (k.val / 32) hn H32x128 (f ⟨k.val / 32, hn⟩) (hx ⟨k.val / 32, hn⟩) rfl
    (32 * (k.val / 32)) ?_ (ix2 ⟨k.val % 32, Nat.mod_lt _ (by decide)⟩ i) ?_ ?_
  · rw [← hs ⟨k.val / 32, hn⟩, List.map_take]
    rfl
  · intro b hb
    match b with
    | ⟨0, _⟩ => exact absurd rfl hb
    | ⟨1, _⟩ => rfl
  · show 32 * (k.val / 32) + k.val % 32 = k.val
    omega

end T5
end
-- ==== Proof.TileVal.lean ====
module

public import proofs.«01_k».proof.Proof.Heads
public import proofs.«01_k».proof.Proof.Math
public import proofs.«01_k».proof.Proof.Codes

@[expose] public section

noncomputable section

/-! What a tile computes, column by column, over the extended reals. -/

namespace T5

open Idealize.ShloMosaic

/-! ## Rows of eight, read at an element -/

/-- `P` is the largest of `g j r` over rows `q … q+n`. -/
def Part (g : Nat → Fin 8 → EReal) (q n : Nat) (P : EReal) : Prop :=
  (∀ j r, q ≤ j → j ≤ q + n → g j r ≤ P) ∧ ∃ j r, q ≤ j ∧ j ≤ q + n ∧ P = g j r

/-- The running maximum is at least the start and every row, and is one of them. -/
theorem accMax_spec (R : Nat → FVec Ideal H8x128 .f32) (p : H8x128.Idx) : ∀ (n q : Nat) (acc : FVec Ideal H8x128 .f32),
    ((acc p : EReal) ≤ accMax R n q acc p) ∧ (∀ j, q ≤ j → j < q + n → (R j p : EReal) ≤ accMax R n q acc p)
      ∧ (accMax R n q acc p = acc p ∨ ∃ j, q ≤ j ∧ j < q + n ∧ accMax R n q acc p = R j p) := by
  intro n
  induction n with
  | zero => intro q acc; exact ⟨le_rfl, fun j h1 h2 => by omega, .inl rfl⟩
  | succ n ih =>
    intro q acc
    obtain ⟨h1, h2, h3⟩ := ih (q + 1) (maximumf acc (R q))
    have e : (maximumf acc (R q) p : EReal) = max (acc p : EReal) (R q p) := rfl
    rw [e] at h1 h3
    refine ⟨le_trans (le_max_left _ _) h1, fun j a b => ?_, ?_⟩
    · rcases Nat.eq_or_lt_of_le a with rfl | a
      · exact le_trans (le_max_right _ _) h1
      · exact h2 j a (by omega)
    · rcases h3 with h3 | ⟨j, a, b, h3⟩
      · rcases max_choice (acc p : EReal) (R q p) with h | h
        · exact .inl (h3.trans h)
        · exact .inr ⟨q, le_rfl, by omega, h3.trans h⟩
      · exact .inr ⟨j, by omega, by omega, h3⟩

/-- The maximum of rows is at least each of them and is one of them. -/
theorem rowMax_spec (R : Nat → FVec Ideal H8x128 .f32) (p : H8x128.Idx) (q n : Nat) :
    (∀ j, q ≤ j → j ≤ q + n → (R j p : EReal) ≤ rowMax R q n p) ∧ ∃ j, q ≤ j ∧ j ≤ q + n ∧ rowMax R q n p = R j p := by
  obtain ⟨h1, h2, h3⟩ := accMax_spec R p n (q + 1) (R q)
  refine ⟨fun j a b => ?_, ?_⟩
  · rcases Nat.eq_or_lt_of_le a with rfl | a
    · exact h1
    · exact h2 j a (by omega)
  · rcases h3 with h3 | ⟨j, a, b, h3⟩
    · exact ⟨q, le_rfl, by omega, h3⟩
    · exact ⟨j, by omega, by omega, h3⟩

/-- The running sum, at an element. -/
theorem accSum_apply (R : Nat → FVec Ideal H8x128 .f32) (p : H8x128.Idx) : ∀ (n q : Nat) (acc : FVec Ideal H8x128 .f32),
    (accSum R n q acc p : EReal) = (acc p : EReal) + ∑ j : Fin n, (R (q + j.val) p : EReal) := by
  intro n
  induction n with
  | zero => intro q acc; simp [accSum]
  | succ n ih =>
    intro q acc
    show (accSum R n (q + 1) (addf acc (R q)) p : EReal) = _
    rw [ih, Fin.sum_univ_succ, ← add_assoc]
    refine congrArg₂ _ rfl (Finset.sum_congr rfl fun j _ => ?_)
    rw [show q + 1 + j.val = q + (j.succ).val from by rw [Fin.val_succ]; omega]

/-- The word for minus infinity. -/
theorem bot_bits : Ideal.ofBits .f32 0xFF800000#32 = ⊥ := by simp [Ideal.ofBits, Ideal.ieee]

/-- The column maximum, at an element. -/
theorem colMax_apply (x : FVec Ideal H8x128 .f32) (i : Fin 128) :
    colMax x (ix2 0 i) = Finset.univ.fold max (⊥ : EReal) fun r : Fin 8 => x (ix2 r i) := by
  unfold colMax
  pointwise [bot_bits]

/-- The column sum, at an element. -/
theorem colSum_apply (x : FVec Ideal H8x128 .f32) (i : Fin 128) :
    colSum x (ix2 0 i) = ∑ r : Fin 8, (x (ix2 r i) : EReal) := by
  unfold colSum
  pointwise

/-- The column maximum of rows `q … q+n` is their largest element. -/
theorem colMax_part (R : Nat → FVec Ideal H8x128 .f32) (i : Fin 128) (q n : Nat) :
    Part (fun j r => R j (ix2 r i)) q n (colMax (rowMax R q n) (ix2 0 i)) := by
  rw [colMax_apply]
  refine ⟨fun j r a b => ?_, ?_⟩
  · rw [Finset.le_fold_max]
    exact .inr ⟨r, Finset.mem_univ r, (rowMax_spec R (ix2 r i) q n).1 j a b⟩
  · obtain ⟨r, hr⟩ := Finite.exists_max fun r : Fin 8 => (rowMax R q n (ix2 r i) : EReal)
    obtain ⟨j, a, b, e⟩ := (rowMax_spec R (ix2 r i) q n).2
    refine ⟨j, r, a, b, ?_⟩
    show _ = (R j (ix2 r i) : EReal)
    rw [← e]
    refine le_antisymm ?_ ?_
    · rw [Finset.fold_max_le]; exact ⟨bot_le, fun r' _ => hr r'⟩
    · rw [Finset.le_fold_max]; exact .inr ⟨r, Finset.mem_univ r, le_rfl⟩

/-- The scaled and shifted column maximum, at an element. -/
theorem farMax_apply (z f : EReal) (x : FVec Ideal H8x128 .f32) (i : Fin 128) :
    farMax (F := Ideal) z f x (ix2 0 i) = (colMax x (ix2 0 i) : EReal) * z + f := rfl

/-- Scaling by a nonnegative number after the maximum gives the maximum of the scaled elements. -/
theorem farMax_part (z f : EReal) (hz : 0 ≤ z) (R : Nat → FVec Ideal H8x128 .f32) (i : Fin 128) (q n : Nat) :
    Part (fun j r => (R j (ix2 r i) : EReal) * z + f) q n (farMax (F := Ideal) z f (rowMax R q n) (ix2 0 i)) := by
  obtain ⟨h1, j, r, a, b, h2⟩ := colMax_part R i q n
  rw [farMax_apply]
  refine ⟨fun j r a b => ?_, j, r, a, b, ?_⟩
  · exact add_le_add (mul_le_mul_of_nonneg_right (h1 j r a b) hz) le_rfl
  · rw [h2]

/-- A far row's exponentials, at an element. -/
theorem farExp_apply (z : EReal) (sh : FVec Ideal H1x128 .f32) (X : FVec Ideal H8x128 .f32) (r : Fin 8) (i : Fin 128) :
    farExp (F := Ideal) z sh (shapeCast H1x8x128 X casts_8_1) (ix2 r i) = Ideal.exp2 ((X (ix2 r i) : EReal) * z + sh (ix2 0 i)) := by
  unfold farExp
  pointwise
  rfl

/-- A near row's exponentials, at an element. -/
theorem nearExp_apply (m : FVec Ideal H1x128 .f32) (X : FVec Ideal H8x128 .f32) (r : Fin 8) (i : Fin 128) :
    nearExp (F := Ideal) m (shapeCast H1x8x128 X casts_8_1) (ix2 r i) = Ideal.exp2 ((X (ix2 r i) : EReal) - m (ix2 0 i)) := by
  unfold nearExp
  pointwise
  rfl

/-- The far shift, at an element. -/
theorem shift_apply (f : EReal) (m : FVec Ideal H1x128 .f32) (i : Fin 128) :
    shift (F := Ideal) f m (ix2 0 i) = f - (m (ix2 0 i) : EReal) := rfl

/-! ## A column of a tile -/

/-- The key in row `r` of rows of eight number `j`. -/
def key (j : Nat) (r : Fin 8) (h : j < 64) : Fin 512 := ⟨8 * j + r.val, by omega⟩

/-- Column `i` of the tile's rows `R` holds the scores `x` times `1 / log 2`: as they are in rows `lo … hi-1`, before
    scaling and bias in the others. -/
structure Good (R : Nat → FVec Ideal H8x128 .f32) (z fn fp : EReal) (lo hi : Nat) (x : Fin 512 → EReal) (i : Fin 128) : Prop where
  left : ∀ j (h : j < 64) r, j < lo → (R j (ix2 r i) : EReal) * z + fn = x (key j r h) * L2
  near : ∀ j (h : j < 64) r, lo ≤ j → j < hi → (R j (ix2 r i) : EReal) = x (key j r h) * L2
  right : ∀ j (h : j < 64) r, lo ≤ j → hi ≤ j → (R j (ix2 r i) : EReal) * z + fp = x (key j r h) * L2

/-- A key is a row of eight and a place in it. -/
theorem key_split (k : Fin 512) : ∃ (j : Nat) (r : Fin 8) (h : j < 64), k = key j r h ∧ k.val / 8 = j ∧ k.val % 8 = r.val :=
  ⟨k.val / 8, ⟨k.val % 8, Nat.mod_lt _ (by decide)⟩, by omega, Fin.ext (by simp [key]; omega), rfl, rfl⟩

/-- A bound of all scaled scores that is one of them is the scaled largest score. -/
theorem eq_mx {x : Fin 512 → EReal} {M : EReal} (hle : ∀ j r h, x (key j r h) * L2 ≤ M) (hex : ∃ k, M = x k * L2) : M = mx x * L2 := by
  obtain ⟨k, rfl⟩ := hex
  refine le_antisymm (mul_le_mul_of_nonneg_right (le_mx x k) L2_nonneg) ?_
  obtain ⟨k', hk'⟩ := exists_mx x
  obtain ⟨j, r, h, rfl, -, -⟩ := key_split k'
  rw [← hk']
  exact hle j r h

section col

variable {R : Nat → FVec Ideal H8x128 .f32} {z fn fp : EReal} {lo hi : Nat} {x : Fin 512 → EReal} {i : Fin 128}

/-- The maximum of a tile with no far rows before its near ones. -/
theorem maxA_eq (hz : 0 ≤ z) (n p : Nat) (g : Good R z fn fp 0 (n + 1) x i) (hq : (n + 1) + (p + 1) = 64) :
    maxA (F := Ideal) z fp n p R (ix2 0 i) = mx x * L2 := by
  obtain ⟨a1, j1, r1, b1, c1, e1⟩ := colMax_part R i 0 n
  obtain ⟨a2, j2, r2, b2, c2, e2⟩ := farMax_part z fp hz R i (0 + (n + 1)) p
  have e : maxA (F := Ideal) z fp n p R (ix2 0 i) = max (colMax (rowMax R 0 n) (ix2 0 i) : EReal) (farMax (F := Ideal) z fp (rowMax R (0 + (n + 1)) p) (ix2 0 i)) := rfl
  rw [e]
  refine eq_mx (fun j r h => ?_) ?_
  · by_cases h1 : j < n + 1
    · rw [← g.near j h r (Nat.zero_le _) h1]
      exact le_trans (a1 j r (Nat.zero_le _) (by omega)) (le_max_left _ _)
    · rw [← g.right j h r (Nat.zero_le _) (by omega)]
      exact le_trans (a2 j r (by omega) (by omega)) (le_max_right _ _)
  · rcases max_choice (colMax (rowMax R 0 n) (ix2 0 i) : EReal) (farMax (F := Ideal) z fp (rowMax R (0 + (n + 1)) p) (ix2 0 i)) with h | h
    · exact ⟨key j1 r1 (by omega), by rw [h, e1]; exact g.near j1 _ r1 (Nat.zero_le _) (by omega)⟩
    · exact ⟨key j2 r2 (by omega), by rw [h, e2]; exact g.right j2 _ r2 (Nat.zero_le _) (by omega)⟩

/-- The maximum of a tile with far rows on both sides. -/
theorem maxB_eq (hz : 0 ≤ z) (l n p : Nat) (g : Good R z fn fp (l + 1) (l + 1 + (n + 1)) x i) (hq : (l + 1) + (n + 1) + (p + 1) = 64) :
    maxB (F := Ideal) z fn fp l n p R (ix2 0 i) = mx x * L2 := by
  obtain ⟨a0, j0, r0, b0, c0, e0⟩ := farMax_part z fn hz R i 0 l
  obtain ⟨a1, j1, r1, b1, c1, e1⟩ := colMax_part R i (0 + (l + 1)) n
  obtain ⟨a2, j2, r2, b2, c2, e2⟩ := farMax_part z fp hz R i (0 + (l + 1) + (n + 1)) p
  have e : maxB (F := Ideal) z fn fp l n p R (ix2 0 i) = max (max (farMax (F := Ideal) z fn (rowMax R 0 l) (ix2 0 i) : EReal) (colMax (rowMax R (0 + (l + 1)) n) (ix2 0 i)))
    (farMax (F := Ideal) z fp (rowMax R (0 + (l + 1) + (n + 1)) p) (ix2 0 i)) := rfl
  rw [e]
  refine eq_mx (fun j r h => ?_) ?_
  · by_cases h0 : j < l + 1
    · rw [← g.left j h r h0]
      exact le_trans (a0 j r (Nat.zero_le _) (by omega)) (le_trans (le_max_left _ _) (le_max_left _ _))
    by_cases h1 : j < l + 1 + (n + 1)
    · rw [← g.near j h r (by omega) h1]
      exact le_trans (a1 j r (by omega) (by omega)) (le_trans (le_max_right _ _) (le_max_left _ _))
    · rw [← g.right j h r (by omega) (by omega)]
      exact le_trans (a2 j r (by omega) (by omega)) (le_max_right _ _)
  · rcases max_choice (max (farMax (F := Ideal) z fn (rowMax R 0 l) (ix2 0 i) : EReal) (colMax (rowMax R (0 + (l + 1)) n) (ix2 0 i)))
      (farMax (F := Ideal) z fp (rowMax R (0 + (l + 1) + (n + 1)) p) (ix2 0 i)) with h | h
    · rcases max_choice (farMax (F := Ideal) z fn (rowMax R 0 l) (ix2 0 i) : EReal) (colMax (rowMax R (0 + (l + 1)) n) (ix2 0 i)) with h' | h'
      · exact ⟨key j0 r0 (by omega), by rw [h, h', e0]; exact g.left j0 _ r0 (by omega)⟩
      · exact ⟨key j1 r1 (by omega), by rw [h, h', e1]; exact g.near j1 _ r1 (by omega) (by omega)⟩
    · exact ⟨key j2 r2 (by omega), by rw [h, e2]; exact g.right j2 _ r2 (by omega) (by omega)⟩

/-- The maximum of a tile with no far rows after its near ones. -/
theorem maxC_eq (hz : 0 ≤ z) (l n : Nat) (g : Good R z fn fp (l + 1) 64 x i) (hq : (l + 1) + (n + 1) = 64) :
    maxC (F := Ideal) z fn l n R (ix2 0 i) = mx x * L2 := by
  obtain ⟨a0, j0, r0, b0, c0, e0⟩ := farMax_part z fn hz R i 0 l
  obtain ⟨a1, j1, r1, b1, c1, e1⟩ := colMax_part R i (0 + (l + 1)) n
  have e : maxC (F := Ideal) z fn l n R (ix2 0 i) = max (farMax (F := Ideal) z fn (rowMax R 0 l) (ix2 0 i) : EReal) (colMax (rowMax R (0 + (l + 1)) n) (ix2 0 i)) := rfl
  rw [e]
  refine eq_mx (fun j r h => ?_) ?_
  · by_cases h0 : j < l + 1
    · rw [← g.left j h r h0]
      exact le_trans (a0 j r (Nat.zero_le _) (by omega)) (le_max_left _ _)
    · rw [← g.near j h r (by omega) h]
      exact le_trans (a1 j r (by omega) (by omega)) (le_max_right _ _)
  · rcases max_choice (farMax (F := Ideal) z fn (rowMax R 0 l) (ix2 0 i) : EReal) (colMax (rowMax R (0 + (l + 1)) n) (ix2 0 i)) with h' | h'
    · exact ⟨key j0 r0 (by omega), by rw [h', e0]; exact g.left j0 _ r0 (by omega)⟩
    · exact ⟨key j1 r1 (by omega), by rw [h', e1]; exact g.near j1 _ r1 (by omega) (by omega)⟩

/-- A score of a far stretch, shifted, is the difference of the scaled score and the maximum. -/
theorem sub_mul_L2 (a b : EReal) : a * L2 - b * L2 = (a - b) * L2 := by
  rw [sub_eq_add_neg, sub_eq_add_neg, mul_L2_add, EReal.neg_mul]

/-- The exponentials of a column are the softmax weights of its scores. -/
theorem tileE_wt (g : Good R z fn fp lo hi x i) {m : FVec Ideal H1x128 .f32} (hm : m (ix2 0 i) = mx x * L2) (k : Fin 512) :
    tileE (F := Ideal) z fn fp m lo hi R (k.val / 8) (ix2 ⟨k.val % 8, Nat.mod_lt _ (by decide)⟩ i) = wt x k := by
  obtain ⟨j, r, h, rfl, e1, e2⟩ := key_split k
  rw [show (⟨(key j r h).val % 8, Nat.mod_lt _ (by decide)⟩ : Fin 8) = r from Fin.ext e2, e1]
  unfold tileE wt
  rw [← exp2_mul_L2, ← sub_mul_L2]
  by_cases h0 : j < lo
  · rw [if_pos h0, farExp_apply, shift_apply, hm, ← g.left j h r h0]
    rw [sub_eq_add_neg, sub_eq_add_neg, add_assoc]
  rw [if_neg h0]
  by_cases h1 : j < hi
  · rw [if_pos h1, nearExp_apply, hm, ← g.near j h r (by omega) h1]
  · rw [if_neg h1, farExp_apply, shift_apply, hm, ← g.right j h r (by omega) (by omega)]
    rw [sub_eq_add_neg, sub_eq_add_neg, add_assoc]

end col

/-! ## The codes and the scale of a column -/

/-- Column `i` of the exponentials `E` holds the weights of the scores `x`. -/
def ColOf (E : Nat → FVec Ideal H8x128 .f32) (x : Fin 512 → EReal) (i : Fin 128) : Prop :=
  ∀ k : Fin 512, E (k.val / 8) (ix2 ⟨k.val % 8, Nat.mod_lt _ (by decide)⟩ i) = wt x k

section codes

variable {E : Nat → FVec Ideal H8x128 .f32} {x : Fin 512 → EReal} {i : Fin 128} (hE : ColOf E x i)
include hE

/-- A column's exponentials are the weights. -/
theorem colOf_key (j : Nat) (r : Fin 8) (h : j < 64) : (E j (ix2 r i) : EReal) = wt x (key j r h) := by
  have e := hE (key j r h)
  have h1 : (key j r h).val / 8 = j := by simp [key]; omega
  have h2 : (⟨(key j r h).val % 8, Nat.mod_lt _ (by decide)⟩ : Fin 8) = r := Fin.ext (by simp [key])
  rw [h1, h2] at e
  exact e

/-- A column's sum is the weights' sum. -/
theorem sum_wt : (colSum (sumOf E) (ix2 0 i) : EReal) = ∑ k, wt x k := by
  rw [colSum_apply]
  have e : ∀ r : Fin 8, (sumOf E (ix2 r i) : EReal) = ∑ j : Fin 64, wt x (key j.val r j.isLt) := by
    intro r
    show (accSum E 64 0 zero8 (ix2 r i) : EReal) = _
    rw [accSum_apply]
    have z0 : (zero8 (F := Ideal) (ix2 r i) : EReal) = 0 := Ideal.ofBits_zero_f32
    rw [z0, zero_add]
    refine Finset.sum_congr rfl fun j _ => ?_
    rw [Nat.zero_add]
    exact colOf_key hE j.val r j.isLt
  rw [Finset.sum_congr rfl fun r _ => e r, Finset.sum_comm, ← Fintype.sum_prod_type']
  refine Fintype.sum_equiv (finProdFinEquiv (m := 64) (n := 8)) _ _ fun p => ?_
  refine congrArg (wt x) (Fin.ext ?_)
  simp [key, finProdFinEquiv]
  omega

/-- A column's reciprocal is the weights' one. -/
theorem invOf_eq : (invOf (F := Ideal) (sumOf E) (ix2 0 i) : EReal) = rcp x := by
  have e : (invOf (F := Ideal) (sumOf E) (ix2 0 i) : EReal) = Ideal.div (Ideal.ofBits .f32 0x3F800000#32) (colSum (sumOf E) (ix2 0 i)) := rfl
  rw [e, sum_wt hE, Ideal.ofBits_one_f32]
  rfl

omit hE in
theorem step_apply (v : FVec Ideal H1x128 .f32) (b : BitVec 32) (p : H1x128.Idx) : step (F := Ideal) v b p = stepW ((v p : EReal) * C448) b := by
  have e : step (F := Ideal) v b p = Scalar.select (BitVec.ofBool (decide (Ideal.ofBits .f32 b ≤ (v p : EReal) * C448))) 1#32 0#32 := rfl
  rw [e]
  unfold stepW
  by_cases h : Ideal.ofBits .f32 b ≤ (v p : EReal) * C448
  · rw [if_pos h, decide_eq_true h]; rfl
  · rw [if_neg h, decide_eq_false h]; rfl

omit hE in
theorem expo_apply (v : FVec Ideal H1x128 .f32) (p : H1x128.Idx) : expo (F := Ideal) v p = kerExp ((v p : EReal) * C448) := by
  unfold kerExp
  rw [← step_apply v, ← step_apply v, ← step_apply v, ← step_apply v, ← step_apply v, ← step_apply v, ← step_apply v, ← step_apply v, ← step_apply v]
  rfl

omit hE in
theorem ratio_apply (v : FVec Ideal H1x128 .f32) (p : H1x128.Idx) : (ratio (F := Ideal) v p : EReal)
    = (v p : EReal) * Ideal.ofBits .f32 (IntOp.shli .vector (127#32 - expo (F := Ideal) v p) 23#32) := rfl

omit hE in
theorem pow2_apply (e : IVec H1x128 32) (p : H1x128.Idx) : (pow2 (F := Ideal) e p : EReal)
    = Ideal.ofBits .f32 (IntOp.shli .vector (127#32 + e p) 23#32) := rfl

/-- The factor that turns exponentials into codes. -/
theorem ratio_eq : (ratio (F := Ideal) (invOf (sumOf E)) (ix2 0 i) : EReal) = rcp x * Ideal.ofBits .f32 ((127#32 - kerExp (rcp x * C448)) <<< 23) := by
  rw [ratio_apply, expo_apply, invOf_eq hE]
  rfl

/-- The factor that turns code sums into results. -/
theorem outS_eq (vs : EReal) : (outS (F := Ideal) vs E (ix2 0 i) : EReal) = Ideal.ofBits .f32 ((127#32 + kerExp (rcp x * C448)) <<< 23) * vs := by
  have e : (outS (F := Ideal) vs E (ix2 0 i) : EReal) = (pow2 (F := Ideal) (expo (invOf (sumOf E))) (ix2 0 i) : EReal) * vs := rfl
  rw [e, pow2_apply, expo_apply, invOf_eq hE]
  rfl

omit hE in
theorem code_apply (r : FVec Ideal H1x128 .f32) (y : FVec Ideal H1x32x128 .f32) (a : Fin 32) (i : Fin 128) :
    code (F := Ideal) r y (ix2 a i) = clip ((y (ix3 0 a i) : EReal) * r (ix2 0 i)) := by
  unfold code clip lo448 hi448
  pointwise

/-- A code of a column. -/
theorem outC_eq (k : Fin 512) : (outC (F := Ideal) E (ix2 k i) : EReal)
    = clip (wt x k * (rcp x * Ideal.ofBits .f32 ((127#32 - kerExp (rcp x * C448)) <<< 23))) := by
  unfold outC
  rw [codes_apply, code_apply, ratio_eq hE]
  have e : (blk E (k.val / 32) (ix3 0 ⟨k.val % 32, Nat.mod_lt _ (by decide)⟩ i) : EReal)
      = E (4 * (k.val / 32) + (k.val % 32) / 8) (ix2 ⟨(k.val % 32) % 8, Nat.mod_lt _ (by decide)⟩ i) := by
    unfold blk
    pointwise
  rw [e, show 4 * (k.val / 32) + (k.val % 32) / 8 = k.val / 8 from by omega,
    show (⟨(k.val % 32) % 8, Nat.mod_lt _ (by decide)⟩ : Fin 8) = ⟨k.val % 8, Nat.mod_lt _ (by decide)⟩ from Fin.ext (by simp), hE k]

end codes

end T5
end
-- ==== Proof.HeadOps.lean ====
module

public import proofs.«01_k».proof.Proof.TileVal

@[expose] public section

noncomputable section

/-! The operations of a head, read at an element. -/

namespace T5

open Idealize.ShloMosaic

/-- The loaded word is the array's element. -/
theorem word_apply {m n : Nat} (X : FVec Ideal (⟨2, ![m, n]⟩ : Shape) .f32) (a b : Nat) (ha : a < m) (hb : b < n) :
    word (F := Ideal) X a b ha hb = X (ix2 ⟨a, ha⟩ ⟨b, hb⟩) := by
  unfold word ld
  refine congrArg X (funext fun x => Fin.ext ?_)
  fin_cases x <;> simp [Rect.emb, Rect.unit, Shape.Idx.first, ix2]

/-- A head's keys, at an element. -/
theorem kOf_apply (X : FVec Ideal HQ .fp8e4m3) (H : Nat) (hH : H < 16) (c : Fin 64) (k : Fin 512) :
    kOf (F := Ideal) X H hH (ix4 0 0 c k) = X (ix4 0 ⟨H, hH⟩ c k) := by
  unfold kOf ld
  refine congrArg X (funext fun x => Fin.ext ?_)
  fin_cases x <;> simp [Rect.emb, Rect.unit, ix4]

/-- A head's queries of a pair of tiles, at an element. -/
theorem qOf_apply (X : FVec Ideal HQ .fp8e4m3) (H o : Nat) (hH : H < 16) (ho : o + 256 ≤ 512) (c : Fin 64) (i : Fin 256) :
    qOf (F := Ideal) X H o hH ho (ix4 0 0 c i) = X (ix4 0 ⟨H, hH⟩ c ⟨o + i.val, by omega⟩) := by
  unfold qOf ld
  refine congrArg X (funext fun x => Fin.ext ?_)
  fin_cases x <;> simp [Rect.emb, Rect.unit, ix4]

/-- A row of unscaled scores, at an element. -/
theorem rawRow_apply (st : FVec Ideal H512x256 .f32) (c0 : Nat) (hc : c0 + 128 ≤ 256) (j : Nat) (h : j < 64) (r : Fin 8) (i : Fin 128) :
    rawRow (F := Ideal) st c0 hc j h (ix2 r i) = st (ix2 (key j r h) ⟨c0 + i.val, by omega⟩) := by
  unfold rawRow key
  pointwise

/-- A near row, at an element. -/
theorem nearRow_apply (st : FVec Ideal H512x256 .f32) (z : EReal) (T : Tile) (j : Nat) (h : j < 64) (t : FVec Ideal H1x8x128 .f32)
    (r : Fin 8) (i : Fin 128) :
    nearRowOf (F := Ideal) st z T j h t (ix2 r i) = (rawRow (F := Ideal) st T.c0 T.hc j h (ix2 r i) : EReal) * z + t (ix3 0 r i) := by
  unfold nearRowOf
  pointwise

/-- A score is the sum over channels of the products. -/
theorem scores_apply (k : FVec Ideal H1x1x64x512 .fp8e4m3) (q : FVec Ideal H1x1x64x256 .fp8e4m3) (a : Fin 512) (b : Fin 256) :
    (scores (F := Ideal) k q (ix2 a b) : EReal) = ∑ c : Fin 64, (k (ix4 0 0 c a) : EReal) * q (ix4 0 0 c b) := by
  unfold scores
  pointwise

/-- The first tile's part of a pair's result. -/
theorem pairOut_left (v : FVec Ideal H1x1x64x512 .fp8e4m3) (a b : FVec Ideal H512x128 .fp8e4m3) (sa sb : FVec Ideal H1x128 .f32)
    (c : Fin 64) (i : Fin 128) :
    (pairOut (F := Ideal) v a b sa sb (ix2 c ⟨i.val, by omega⟩) : EReal)
      = (∑ k : Fin 512, (v (ix4 0 0 c k) : EReal) * a (ix2 k i)) * sa (ix2 0 i) := by
  unfold pairOut
  pointwise

/-- The second tile's part of a pair's result. -/
theorem pairOut_right (v : FVec Ideal H1x1x64x512 .fp8e4m3) (a b : FVec Ideal H512x128 .fp8e4m3) (sa sb : FVec Ideal H1x128 .f32)
    (c : Fin 64) (i : Fin 128) :
    (pairOut (F := Ideal) v a b sa sb (ix2 c ⟨128 + i.val, by omega⟩) : EReal)
      = (∑ k : Fin 512, (v (ix4 0 0 c k) : EReal) * b (ix2 k i)) * sb (ix2 0 i) := by
  unfold pairOut
  pointwise

/-- Two heads' results turned and laid side by side, at an element. -/
theorem outOf_apply (x y : FVec Ideal H64x512 .f32) (q : Fin 512) (l : Fin 128) :
    (outOf (F := Ideal) x y (ix3 0 q l) : EReal)
      = if h : l.val < 64 then x (ix2 ⟨l.val, h⟩ q) else y (ix2 ⟨l.val - 64, by omega⟩ q) := by
  unfold outOf
  pointwise

end T5
end
-- ==== Proof.Bias.lean ====
module

public import proofs.«01_k».proof.Proof.TileVal

@[expose] public section

noncomputable section

/-! The bias table, read at an element: the bucket of a distance. -/

namespace T5

open Idealize.ShloMosaic

/-- The last of the edges `es`, counted from `j`, that `a` has reached. -/
def edgesN : List (BitVec 32) → Nat → BitVec 32 → Nat → Nat
  | [], _, _, n => n
  | e :: es, j, a, n => edgesN es (j + 1) a (if e.sle a then j else n)

/-- The table's rows after the edges hold the word of the last edge reached. -/
theorem edges_apply (w : Nat → EReal) (p : HR.Idx) : ∀ (es : List (BitVec 32)) (j n : Nat) (x : FVec Ideal HR .f32), x p = w n →
    edges (F := Ideal) w es j x p = w (edgesN es j (IntOp.absi (dist p)) n) := by
  intro es
  induction es with
  | nil => intro j n x hx; exact hx
  | cons e es ih =>
    intro j n x hx
    unfold edges edgesN
    refine ih (j + 1) _ _ ?_
    show Scalar.select (BitVec.ofBool (e.sle (IntOp.absi (dist p)))) (w j) (x p) = _
    cases e.sle (IntOp.absi (dist p))
    · exact hx
    · rfl

/-- The bucket of a distance, key position minus query position. -/
def bucket (D : BitVec 32) : Nat := if (0#32).slt D then 16 + edgesN edgeList 1 (IntOp.absi D) 0 else edgesN edgeList 1 (IntOp.absi D) 0

/-- Key position minus query position. -/
def dw (k q : Nat) : BitVec 32 := BitVec.ofNat 32 k - BitVec.ofNat 32 q

/-- The difference of positions as one word. -/
theorem dw_cases (k q : Nat) (hk : k < 512) (hq : q < 512) : dw k q = BitVec.ofNat 32 ((k + 511 - q) + 4294966785) := by
  unfold dw
  apply BitVec.eq_of_toNat_eq
  simp only [BitVec.toNat_sub, BitVec.toNat_ofNat]
  omega

/-- The bucket of the distance `d - 511`. -/
def bucketAt (d : Nat) : Nat := bucket (BitVec.ofNat 32 (d + 4294966785))

/-- The bucket of a difference, by the table of differences. -/
theorem bucket_dw (k q : Nat) (hk : k < 512) (hq : q < 512) : bucket (dw k q) = bucketAt (k + 511 - q) := by
  unfold bucketAt
  rw [dw_cases k q hk hq]

/-- Every bucket is below 32; far negative distances have bucket 15, far positive ones 31. -/
theorem bucket_table : ∀ d : Fin 1023, bucketAt d.val < 32 ∧ (d.val ≤ 420 → bucketAt d.val = 15) ∧ (602 ≤ d.val → bucketAt d.val = 31) := by
  decide +kernel

/-- Every bucket is below 32. -/
theorem bucket_lt (k q : Nat) (hk : k < 512) (hq : q < 512) : bucket (dw k q) < 32 := by
  rw [bucket_dw k q hk hq]; exact (bucket_table ⟨k + 511 - q, by omega⟩).1

/-- A key 91 or more before the query has bucket 15. -/
theorem bucket_left (k q : Nat) (hk : k < 512) (hq : q < 512) (h : k + 91 ≤ q) : bucket (dw k q) = 15 := by
  rw [bucket_dw k q hk hq]; exact (bucket_table ⟨k + 511 - q, by omega⟩).2.1 (by simp only; omega)

/-- A key 91 or more after the query has bucket 31. -/
theorem bucket_right (k q : Nat) (hk : k < 512) (hq : q < 512) (h : q + 91 ≤ k) : bucket (dw k q) = 31 := by
  rw [bucket_dw k q hk hq]; exact (bucket_table ⟨k + 511 - q, by omega⟩).2.2 (by simp only; omega)

/-- An equation of words, rearranged. -/
theorem word_shift {x y z u n : BitVec 32} (h : x + u = z + n + y) : x + -n - y = z - u := by
  grind

/-- The table's distances, at an element. -/
theorem dist_apply (a : Fin 320) (i : Fin 128) :
    dist (ix2 a i) = IntOp.subi (IntOp.addi (BitVec.ofNat 32 a.val) 4294967200#32) (BitVec.ofNat 32 i.val) := by
  unfold dist
  pointwise

/-- The table's distance at the row of a key and a query is their difference. -/
theorem dist_eq (a : Fin 320) (i : Fin 128) (k q : Nat) (hk : k < 512) (hq : q < 512) (h : a.val + q = k + 96 + i.val) :
    dist (ix2 a i) = dw k q := by
  have e : (4294967200#32 : BitVec 32) = -96#32 := by decide
  have h' : BitVec.ofNat 32 a.val + BitVec.ofNat 32 q = BitVec.ofNat 32 k + 96#32 + BitVec.ofNat 32 i.val := by
    rw [← BitVec.ofNat_add, ← BitVec.ofNat_add, ← BitVec.ofNat_add, h]
  rw [dist_apply, e]
  unfold dw
  exact word_shift h'

/-- A select on a decided bit. -/
theorem select_ofBool (b : Bool) (x y : EReal) : Scalar.select (BitVec.ofBool b) x y = if b then x else y := by
  cases b <;> rfl

/-- A signed comparison with zero, at an element. -/
theorem sgt_apply (D : IVec HR 32) (p : HR.Idx) : cmpi .sgt D (broadcast HR 0#32) p = BitVec.ofBool ((0#32).slt (D p)) := rfl

/-- A scaled selection with a leading unit axis, at an element. -/
theorem tabCast (M : IVec HR 1) (l : EReal) (n p : FVec Ideal HR .f32) (a : Fin 320) (i : Fin 128) :
    (shapeCast H1xR (mulf (F := Ideal) (select M p n) (broadcast (α := Ideal .f32) HR l)) casts_R (ix3 0 a i) : EReal)
      = Scalar.select (M (ix2 a i)) (p (ix2 a i) : EReal) (n (ix2 a i)) * l := by
  pointwise

/-- One head's table from its two halves, at an element. -/
theorem tabOf_apply (l : EReal) (n p : FVec Ideal HR .f32) (a : Fin 320) (i : Fin 128) :
    (tabOf (F := Ideal) l n p (ix3 0 a i) : EReal)
      = (if (0#32).slt (dist (ix2 a i)) then (p (ix2 a i) : EReal) else n (ix2 a i)) * l := by
  refine (tabCast _ l n p a i).trans ?_
  rw [sgt_apply, select_ofBool]

/-- One head's table, at an element: the scaled word of the distance's bucket. -/
theorem tabHead_apply (X4 : FVec Ideal HBi .f32) (l : EReal) (h : Nat) (hh : h < 16) (a : Fin 320) (i : Fin 128) :
    (tabHead (F := Ideal) X4 l h hh (ix3 0 a i) : EReal) = bw (F := Ideal) X4 h hh (bucket (dist (ix2 a i))) * l := by
  unfold tabHead bucket
  rw [tabOf_apply, edges_apply (bw (F := Ideal) X4 h hh) _ edgeList 1 0 _ rfl, edges_apply (fun i => bw (F := Ideal) X4 h hh (16 + i)) _ edgeList 1 0 _ rfl,
    apply_ite (bw (F := Ideal) X4 h hh)]

/-- The whole table, at an element: the scaled word of the distance's bucket. -/
theorem tabFull_apply (X4 : FVec Ideal HBi .f32) (l : EReal) (h : Fin 16) (a : Fin 320) (i : Fin 128) :
    (tabFull (F := Ideal) X4 l (ix3 h a i) : EReal) = bw (F := Ideal) X4 h.val h.isLt (bucket (dist (ix2 a i))) * l := by
  refine Eq.trans ?_ (tabHead_apply X4 l h.val h.isLt a i)
  unfold tabFull
  refine congrArg _ (funext fun x => ?_)
  fin_cases x <;> rfl

end T5
end
-- ==== Proof.HeadTile.lean ====
module

public import proofs.«01_k».proof.Proof.HeadOps
public import proofs.«01_k».proof.Proof.Bias

@[expose] public section

noncomputable section

/-! The columns of a head's four tiles. -/

namespace T5

open Idealize.ShloMosaic

/-- Column `i` of a tile holds the scores of query `T.i0 + i`. -/
theorem good_tile (st : FVec Ideal H512x256 .f32) (σ : EReal) (X4 : FVec Ideal HBi .f32) (T : Tile) (lo hi : Nat) (hl : T.i0 ≤ 8 * lo + 96)
    (hr : 8 * hi + 96 ≤ 320 + T.i0) (h15 : lo = 0 ∨ 8 * lo + 90 ≤ T.i0) (h31 : 64 ≤ hi ∨ T.i0 + 218 ≤ 8 * hi) (i : Fin 128) :
    Good (tileR (F := Ideal) st (σ * L2) T (tabFull (F := Ideal) X4 L2) lo hi) (σ * L2) (bw (F := Ideal) X4 T.H T.hH 15 * L2)
      (bw (F := Ideal) X4 T.H T.hH 31 * L2) lo hi
      (fun k => (st (ix2 k ⟨T.c0 + i.val, by have := T.hc; omega⟩) : EReal) * σ + bw (F := Ideal) X4 T.H T.hH (bucket (dw k.val (T.i0 + i.val)))) i := by
  have hi0 := T.hi
  refine ⟨fun j h r hj => ?_, fun j h r h1 h2 => ?_, fun j h r h1 h2 => ?_⟩
  · rw [tileR_far j h (by omega), rawRow_apply, bucket_left _ _ (key j r h).isLt (by omega) (by simp only [key]; omega), mul_L2_add, mul_assoc]
  · rw [tileR_near j h (by omega) h1 h2, nearRow_apply, rawRow_apply, mul_L2_add, mul_assoc]
    refine congrArg₂ _ rfl ?_
    rw [← dist_eq ⟨8 * j + 96 - T.i0 + r.val, by omega⟩ i (key j r h).val (T.i0 + i.val) (key j r h).isLt (by omega) (by simp only [key]; omega)]
    refine Eq.trans ?_ (tabFull_apply X4 L2 ⟨T.H, T.hH⟩ ⟨8 * j + 96 - T.i0 + r.val, by omega⟩ i)
    unfold ld
    refine congrArg _ (funext fun x => Fin.ext ?_)
    fin_cases x <;> simp [Rect.emb, Rect.unit, ix3]
  · rw [tileR_far j h (by omega), rawRow_apply, bucket_right _ _ (key j r h).isLt (by omega) (by simp only [key]; omega), mul_L2_add, mul_assoc]

section cols

variable (σ : EReal) (hσ : 0 ≤ σ) (k : FVec Ideal H1x1x64x512 .fp8e4m3) (q : FVec Ideal H1x1x64x256 .fp8e4m3) (X4 : FVec Ideal HBi .f32)
  (slot H : Nat) (hs : slot + 1 ≤ 2) (hH : H < 16) (i : Fin 128)

/-- The scores of a query of the head, from the scores of its pair of tiles. -/
def colx (i0 c0 : Nat) (hc : c0 + 128 ≤ 256) (k' : Fin 512) : EReal :=
  (scores (F := Ideal) k q (ix2 k' ⟨c0 + i.val, Nat.lt_of_lt_of_le (Nat.add_lt_add_left i.isLt c0) hc⟩) : EReal) * σ + bw (F := Ideal) X4 H hH (bucket (dw k'.val (i0 + i.val)))

include hσ

/-- The kernel's scale is not negative. -/
theorem nn : 0 ≤ σ * L2 := mul_nonneg hσ L2_nonneg

/-- The first tile's exponentials are the weights of its queries. -/
theorem col0 : ColOf (e0 (F := Ideal) (σ * L2) (bw (F := Ideal) X4 H hH 31 * L2) (bw (F := Ideal) X4 H hH 15 * L2) k q (tabFull (F := Ideal) X4 L2) slot H hs hH)
    (colx σ k q X4 H hH i 0 0 (by decide)) i := fun k' =>
  have g := good_tile (scores (F := Ideal) k q) σ X4 ⟨slot, 0, 0, H, hs, by decide, by decide, hH⟩ 0 (27 + 1) (by simp) (by simp) (.inl rfl) (.inr (by simp)) i
  tileE_wt g (maxA_eq (nn σ hσ) 27 35 g rfl) k'

/-- The second tile's exponentials are the weights of its queries. -/
theorem col1 : ColOf (e1 (F := Ideal) (σ * L2) (bw (F := Ideal) X4 H hH 31 * L2) (bw (F := Ideal) X4 H hH 15 * L2) k q (tabFull (F := Ideal) X4 L2) slot H hs hH)
    (colx σ k q X4 H hH i 128 128 (by decide)) i := fun k' =>
  have g := good_tile (scores (F := Ideal) k q) σ X4 ⟨slot, 128, 128, H, hs, by decide, by decide, hH⟩ (3 + 1) (3 + 1 + (39 + 1)) (by simp) (by simp) (.inr (by simp)) (.inr (by simp)) i
  tileE_wt g (maxB_eq (nn σ hσ) 3 39 19 g rfl) k'

/-- The third tile's exponentials are the weights of its queries. -/
theorem col2 : ColOf (e2 (F := Ideal) (σ * L2) (bw (F := Ideal) X4 H hH 31 * L2) (bw (F := Ideal) X4 H hH 15 * L2) k q (tabFull (F := Ideal) X4 L2) slot H hs hH)
    (colx σ k q X4 H hH i 256 0 (by decide)) i := fun k' =>
  have g := good_tile (scores (F := Ideal) k q) σ X4 ⟨slot, 256, 0, H, hs, by decide, by decide, hH⟩ (19 + 1) (19 + 1 + (39 + 1)) (by simp) (by simp) (.inr (by simp)) (.inr (by simp)) i
  tileE_wt g (maxB_eq (nn σ hσ) 19 39 3 g rfl) k'

/-- The fourth tile's exponentials are the weights of its queries. -/
theorem col3 : ColOf (e3 (F := Ideal) (σ * L2) (bw (F := Ideal) X4 H hH 31 * L2) (bw (F := Ideal) X4 H hH 15 * L2) k q (tabFull (F := Ideal) X4 L2) slot H hs hH)
    (colx σ k q X4 H hH i 384 128 (by decide)) i := fun k' =>
  have g := good_tile (scores (F := Ideal) k q) σ X4 ⟨slot, 384, 128, H, hs, by decide, by decide, hH⟩ (35 + 1) 64 (by simp) (by simp) (.inr (by simp)) (.inl (by simp)) i
  tileE_wt g (maxC_eq (nn σ hσ) 35 27 g rfl) k'

omit hσ in
/-- An output element from the codes and the scale of its column. -/
theorem out_of_col {E : Nat → FVec Ideal H8x128 .f32} {x : Fin 512 → EReal} {i : Fin 128} (hE : ColOf E x i) (v : Fin 512 → EReal) (vs : EReal) :
    (∑ k : Fin 512, v k * (outC (F := Ideal) E (ix2 k i) : EReal)) * outS (F := Ideal) vs E (ix2 0 i) = kerOut x v vs := by
  rw [outS_eq hE, Finset.sum_congr rfl fun k _ => by rw [outC_eq hE k]]
  rfl

end cols

end T5
end
-- ==== Proof.HeadVal.lean ====
module

public import proofs.«01_k».proof.Proof.HeadTile

@[expose] public section

noncomputable section

/-! What a block of the kernel holds, element by element, over the extended reals. -/

namespace T5

open Idealize.ShloMosaic

section head

variable (X1 X2 X3 : FVec Ideal HSc .f32) (X4 : FVec Ideal HBi .f32) (X5 X6 X7 : FVec Ideal HQ .fp8e4m3)

/-- The scaled and biased score of query `q` and key `k` in head `H` of batch `b`. -/
def xOf (b : Fin 24) (H : Fin 16) (q k : Fin 512) : EReal :=
  (∑ c : Fin 64, (X6 (ix4 0 H c k) : EReal) * X5 (ix4 0 H c q)) * ((X1 (ix2 H b) : EReal) * X2 (ix2 H b))
    + bw (F := Ideal) X4 H.val H.isLt (bucket (dw k.val q.val))

/-- A tile's scores are the head's. -/
theorem colx_eq (b : Fin 24) (H : Fin 16) (o i0 c0 : Nat) (ho : o + 256 ≤ 512) (hc : c0 + 128 ≤ 256) (e : i0 = o + c0) (i : Fin 128) :
    colx ((X1 (ix2 H b) : EReal) * X2 (ix2 H b)) (kOf (F := Ideal) X6 H.val H.isLt) (qOf (F := Ideal) X5 H.val o H.isLt ho) X4 H.val H.isLt i i0 c0 hc
      = xOf X1 X2 X4 X5 X6 b H ⟨i0 + i.val, by omega⟩ := by
  subst e
  funext k
  unfold colx xOf
  rw [scores_apply]
  refine congrArg₂ _ (congrArg₂ _ (Finset.sum_congr rfl fun c _ => ?_) rfl) rfl
  rw [kOf_apply, qOf_apply]
  refine congrArg₂ _ rfl (congrArg _ (congrArg _ (Fin.ext ?_)))
  simp only [Nat.add_assoc]

/-- The first pair's columns. -/
theorem cat_left (x y : FVec Ideal H64x256 .f32) (c : Fin 64) (q : Fin 512) (h : q.val < 256) :
    concatenate H64x512 1 [⟨H64x256, x⟩, ⟨H64x256, y⟩] cat2o (ix2 c q) = x (ix2 c ⟨q.val, h⟩) := by
  pointwise
  rw [dif_pos h]

/-- The second pair's columns. -/
theorem cat_right (x y : FVec Ideal H64x256 .f32) (c : Fin 64) (q : Fin 512) (h : ¬ q.val < 256) :
    concatenate H64x512 1 [⟨H64x256, x⟩, ⟨H64x256, y⟩] cat2o (ix2 c q) = y (ix2 c ⟨q.val - 256, by omega⟩) := by
  pointwise
  rw [dif_neg h]

/-- An output element of a head. -/
theorem headOut_apply (slot : Nat) (hs : slot + 1 ≤ 2) (b : Fin 24) (H : Fin 16) (hσ : 0 ≤ (X1 (ix2 H b) : EReal) * X2 (ix2 H b))
    (c : Fin 64) (q : Fin 512) :
    headOut (F := Ideal) X1 X2 X3 X4 X5 X6 X7 (tabFull (F := Ideal) X4 L2) L2 slot H.val b.val hs H.isLt b.isLt (ix2 c q)
      = kerOut (xOf X1 X2 X4 X5 X6 b H q) (fun k => X7 (ix4 0 H c k)) (X3 (ix2 H b)) := by
  have w : ∀ n (hn : n < 32), word (F := Ideal) X4 H.val n H.isLt hn = bw (F := Ideal) X4 H.val H.isLt n := fun n hn => (dif_pos hn).symm
  have hv : ∀ k, (X7 (ix4 0 H c k) : EReal) = kOf (F := Ideal) X7 H.val H.isLt (ix4 0 0 c k) := fun k => (kOf_apply X7 H.val H.isLt c k).symm
  unfold headOut
  simp only [w, word_apply]
  rw [funext hv]
  by_cases h0 : q.val < 256
  · rw [cat_left _ _ c q h0]
    unfold p0
    by_cases h1 : q.val < 128
    · refine (pairOut_left _ _ _ _ _ c ⟨q.val, h1⟩).trans ?_
      refine (out_of_col (col0 _ hσ _ _ X4 slot H.val hs H.isLt ⟨q.val, h1⟩) _ _).trans ?_
      rw [colx_eq X1 X2 X4 X5 X6 b H 0 0 0 (by decide) (by decide) rfl]
      rw [show (⟨0 + q.val, by omega⟩ : Fin 512) = q from Fin.ext (by simp)]
    · have e : (⟨q.val, h0⟩ : Fin 256) = ⟨128 + (q.val - 128), by omega⟩ := Fin.ext (by simp only; omega)
      rw [e]
      refine (pairOut_right _ _ _ _ _ c ⟨q.val - 128, by omega⟩).trans ?_
      refine (out_of_col (col1 _ hσ _ _ X4 slot H.val hs H.isLt ⟨q.val - 128, by omega⟩) _ _).trans ?_
      rw [colx_eq X1 X2 X4 X5 X6 b H 0 128 128 (by decide) (by decide) rfl]
      rw [show (⟨128 + (q.val - 128), by omega⟩ : Fin 512) = q from Fin.ext (by simp only; omega)]
  · rw [cat_right _ _ c q h0]
    unfold p1
    by_cases h1 : q.val < 384
    · refine (pairOut_left _ _ _ _ _ c ⟨q.val - 256, by omega⟩).trans ?_
      refine (out_of_col (col2 _ hσ _ _ X4 slot H.val hs H.isLt ⟨q.val - 256, by omega⟩) _ _).trans ?_
      rw [colx_eq X1 X2 X4 X5 X6 b H 256 256 0 (by decide) (by decide) rfl]
      rw [show (⟨256 + (q.val - 256), by omega⟩ : Fin 512) = q from Fin.ext (by simp only; omega)]
    · have e : (⟨q.val - 256, by omega⟩ : Fin 256) = ⟨128 + (q.val - 384), by omega⟩ := Fin.ext (by simp only; omega)
      rw [e]
      refine (pairOut_right _ _ _ _ _ c ⟨q.val - 384, by omega⟩).trans ?_
      refine (out_of_col (col3 _ hσ _ _ X4 slot H.val hs H.isLt ⟨q.val - 384, by omega⟩) _ _).trans ?_
      rw [colx_eq X1 X2 X4 X5 X6 b H 256 384 128 (by decide) (by decide) rfl]
      rw [show (⟨384 + (q.val - 384), by omega⟩ : Fin 512) = q from Fin.ext (by simp only; omega)]

/-- An element of a grid point's block: query `q`, head `e / 64`, feature `e % 64`. -/
theorem blockOut_apply (b : Fin 24) (hσ : ∀ H : Fin 16, 0 ≤ (X1 (ix2 H b) : EReal) * X2 (ix2 H b)) (q : Fin 512) (e : Fin 1024) :
    blockOut (F := Ideal) X1 X2 X3 X4 X5 X6 X7 (tabFull (F := Ideal) X4 L2) L2 b.val b.isLt (ix3 0 q e)
      = kerOut (xOf X1 X2 X4 X5 X6 b ⟨e.val / 64, by omega⟩ q)
          (fun k => X7 (ix4 0 ⟨e.val / 64, by omega⟩ ⟨e.val % 64, Nat.mod_lt _ (by decide)⟩ k)) (X3 (ix2 ⟨e.val / 64, by omega⟩ b)) := by
  have e1 : blockOut (F := Ideal) X1 X2 X3 X4 X5 X6 X7 (tabFull (F := Ideal) X4 L2) L2 b.val b.isLt (ix3 0 q e)
      = tripOut (F := Ideal) X1 X2 X3 X4 X5 X6 X7 (tabFull (F := Ideal) X4 L2) L2 (2 * (e.val / 128)) (2 * (e.val / 128) + 1) b.val (by omega) (by omega) b.isLt
          (ix3 0 q ⟨e.val % 128, Nat.mod_lt _ (by decide)⟩) := by
    unfold blockOut
    refine congrArg _ (funext fun x => ?_)
    fin_cases x <;> rfl
  rw [e1]
  unfold tripOut
  rw [outOf_apply]
  by_cases h : e.val % 128 < 64
  · rw [dif_pos h]
    have eH : (⟨e.val / 64, by omega⟩ : Fin 16) = ⟨2 * (e.val / 128), by omega⟩ := Fin.ext (by simp only; omega)
    have ec : (⟨e.val % 64, Nat.mod_lt _ (by decide)⟩ : Fin 64) = ⟨e.val % 128, h⟩ := Fin.ext (by simp only; omega)
    rw [eH, ec]
    exact headOut_apply X1 X2 X3 X4 X5 X6 X7 0 (by decide) b ⟨2 * (e.val / 128), by omega⟩ (hσ _) ⟨e.val % 128, h⟩ q
  · rw [dif_neg h]
    have eH : (⟨e.val / 64, by omega⟩ : Fin 16) = ⟨2 * (e.val / 128) + 1, by omega⟩ := Fin.ext (by simp only; omega)
    have ec : (⟨e.val % 64, Nat.mod_lt _ (by decide)⟩ : Fin 64) = ⟨e.val % 128 - 64, by omega⟩ := Fin.ext (by simp only; omega)
    rw [eH, ec]
    exact headOut_apply X1 X2 X3 X4 X5 X6 X7 1 (by decide) b ⟨2 * (e.val / 128) + 1, by omega⟩ (hσ _) ⟨e.val % 128 - 64, by omega⟩ q

end head

end T5
end
-- ==== Proof.Spec.lean ====
module

public import proofs.«01_k».proof.Proof.Bias

@[expose] public section

noncomputable section

/-! The attention both programs compute, as one function of their arguments over the extended reals. -/

namespace T5

open Idealize.ShloMosaic

/-- The shape of the queries, keys and values. -/
abbrev A4 : Shape := ⟨4, ![24, 512, 16, 64]⟩
/-- The shape of the scales. -/
abbrev A2 : Shape := ⟨2, ![24, 16]⟩
/-- The shape of the bias words. -/
abbrev AB : Shape := ⟨2, ![32, 16]⟩
/-- The shape of the result. -/
abbrev AO : Shape := ⟨3, ![24, 512, 1024]⟩

/-- The scaled and biased scores of query `q` in head `h` of batch `b`. -/
def argX (Q K : FVec Ideal A4 .fp8e4m3) (qs ks : FVec Ideal A2 .f32) (B : FVec Ideal AB .bf16) (b : Fin 24) (h : Fin 16) (q k : Fin 512) : EReal :=
  (∑ c : Fin 64, (K (ix4 b k h c) : EReal) * Q (ix4 b q h c)) * ((qs (ix2 b h) : EReal) * ks (ix2 b h))
    + B (ix2 ⟨bucket (dw k.val q.val), bucket_lt _ _ k.isLt q.isLt⟩ h)

/-- The result at batch `b`, query `q`, column `e`: head `e / 64`, channel `e % 64`. -/
def attnAt (Q K V : FVec Ideal A4 .fp8e4m3) (qs ks vs : FVec Ideal A2 .f32) (B : FVec Ideal AB .bf16) (b : Fin 24) (q : Fin 512) (e : Fin 1024) : EReal :=
  kerOut (argX Q K qs ks B b ⟨e.val / 64, by omega⟩ q)
    (fun k => V (ix4 b k ⟨e.val / 64, by omega⟩ ⟨e.val % 64, Nat.mod_lt _ (by decide)⟩)) (vs (ix2 b ⟨e.val / 64, by omega⟩))

/-- The whole result. -/
def attn (Q K V : FVec Ideal A4 .fp8e4m3) (qs ks vs : FVec Ideal A2 .f32) (B : FVec Ideal AB .bf16) : FVec Ideal AO .bf16 :=
  fun p => attnAt Q K V qs ks vs B (p 0) (p 1) (p 2)

/-- Equal arguments give equal results. -/
theorem attn_congr {Q Q' K K' V V' : FVec Ideal A4 .fp8e4m3} {qs qs' ks ks' vs vs' : FVec Ideal A2 .f32} {B B' : FVec Ideal AB .bf16}
    (h0 : Q = Q') (h1 : K = K') (h2 : V = V') (h3 : qs = qs') (h4 : ks = ks') (h5 : vs = vs') (h6 : B = B') :
    attn Q K V qs ks vs B = attn Q' K' V' qs' ks' vs' B' := by
  subst h0 h1 h2 h3 h4 h5 h6
  rfl

/-- An index of a matrix is the pair of its coordinates. -/
theorem idx2_eq {a b : Nat} (p : (⟨2, ![a, b]⟩ : Shape).Idx) : p = ix2 (p 0) (p 1) := by
  funext x
  fin_cases x <;> rfl

/-- An index of rank three is the triple of its coordinates. -/
theorem idx3_eq {a b c : Nat} (p : (⟨3, ![a, b, c]⟩ : Shape).Idx) : p = ix3 (p 0) (p 1) (p 2) := by
  funext x
  fin_cases x <;> rfl

end T5
end
-- ==== Proof.SameI.lean ====
module

public import proofs.«01_k».proof.Proof.Struct
public import proofs.«01_k».proof.Proof.Gen.KernelIdeal

@[expose] public section

set_option maxRecDepth 100000
set_option maxHeartbeats 0

namespace Cert.KernelIdeal

open Idealize.ShloMosaic Idealize.SL.Sem
open Facts₀ Facts

variable {F : FTy → Type} [FloatOps F] [Named F]
variable [Facts]

/-- One trip of the printed body's loop over pairs of heads. -/
noncomputable def trip (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_t2 : Fin k0_t2_loop.trips) : Prog (TpuEff nD τ sig (Elt F) Λ₀ .tc) PUnit := do
    let arg0 : BitVec 32 := BitVec.ofNat 32 (i 0).val
    let c0_i32_1 : BitVec 32 := 0#32
    let c1_i32 : BitVec 32 := 1#32
    let ⟨v5, v6, v14, v17, v20, v23, v27, v30, v1413, v1415, v1988, v1992, v2196, v2201⟩ : Σ' (v5 : BitVec 32) (v6 : BitVec 32) (v14 : F .f32) (v17 : Elt F .f32) (v20 : F .f32) (v23 : F .f32) (v27 : FVec F S512x64 .fp8e4m3) (v30 : FVec F S64x512 .fp8e4m3) (v1413 : FVec F S512x128 .fp8e4m3) (v1415 : FVec F S1x128 .f32) (v1988 : FVec F S1x128 .f32) (v1992 : FVec F S1x128 .f32) (v2196 : FVec F S8x128 .f32), FVec F S8x128 .f32 ← k0_part315 i arg1 harg1 arg2 harg2 arg3 harg3 arg4 harg4 arg5 harg5 arg6 harg6 arg7 harg7 arg8 harg8 arg9 harg9 arg10 harg10 arg11 harg11 arg0 c0_i32_1 c1_i32 k0_t2
    let ⟨v2857, v2861, v4296, v4298, v4392, v4393⟩ : Σ' (v2857 : FVec F S64x256 .f32) (v2861 : FVec F S512x256 .f32) (v4296 : FVec F S512x128 .fp8e4m3) (v4298 : FVec F S1x128 .f32) (v4392 : FVec F S8x128 .f32), FVec F S8x128 .f32 ← k0_part316 i arg1 harg1 arg2 harg2 arg3 harg3 arg4 harg4 arg5 harg5 arg6 harg6 arg7 harg7 arg8 harg8 arg9 harg9 arg10 harg10 arg11 harg11 k0_t2 v6 v14 v17 v20 v23 v27 v30 v1413 v1415 v1988 v1992 v2196 v2201
    let ⟨v5685, v5687, v5695, v5698, v5701, v5704, v5708, v5711, v5715, v6212, v6582, v6583⟩ : Σ' (v5685 : FVec F S64x512 .f32) (v5687 : BitVec 32) (v5695 : F .f32) (v5698 : Elt F .f32) (v5701 : F .f32) (v5704 : F .f32) (v5708 : FVec F S512x64 .fp8e4m3) (v5711 : FVec F S64x512 .fp8e4m3) (v5715 : FVec F S512x256 .f32) (v6212 : FVec F S1x128 .f32) (v6582 : FVec F S8x128 .f32), FVec F S8x128 .f32 ← k0_part317 i arg1 harg1 arg2 harg2 arg3 harg3 arg4 harg4 arg5 harg5 arg6 harg6 arg7 harg7 arg8 harg8 arg9 harg9 arg10 harg10 arg11 harg11 arg0 k0_t2 v5 v6 v14 v17 v20 v30 v2857 v2861 v4296 v4298 v4392 v4393
    let ⟨v8538, v8542, v8641, v8794, v8797, v8799⟩ : Σ' (v8538 : FVec F S64x256 .f32) (v8542 : FVec F S512x256 .f32) (v8641 : FVec F S8x128 .f32) (v8794 : FVec F S8x128 .f32) (v8797 : FVec F S8x128 .f32), Vec F S1x8x128 .f32 ← k0_part318 i arg1 harg1 arg2 harg2 arg3 harg3 arg4 harg4 arg5 harg5 arg6 harg6 arg7 harg7 arg8 harg8 arg9 harg9 arg10 harg10 arg11 harg11 k0_t2 v5687 v5695 v5698 v5701 v5704 v5708 v5711 v5715 v6212 v6582 v6583
    let ⟨v9977, v9979, v10474, v10987, v10992, v10993⟩ : Σ' (v9977 : FVec F S512x128 .fp8e4m3) (v9979 : FVec F S1x128 .f32) (v10474 : FVec F S1x128 .f32) (v10987 : FVec F S8x128 .f32) (v10992 : FVec F S8x128 .f32), FVec F S8x128 .f32 ← k0_part319 i arg1 harg1 arg2 harg2 arg3 harg3 arg4 harg4 arg5 harg5 arg6 harg6 arg7 harg7 arg8 harg8 arg9 harg9 arg10 harg10 arg11 harg11 k0_t2 v5687 v5695 v5698 v5701 v5704 v8542 v8641 v8794 v8797 v8799
    let v11023 : FVec F S8x128 .f32 ← k0_part305 i arg1 harg1 arg2 harg2 arg3 harg3 arg4 harg4 arg5 harg5 arg6 harg6 arg7 harg7 arg8 harg8 arg9 harg9 arg10 harg10 arg11 harg11 v10474 v10987 v10992 v10993
    let ⟨v11058, v11059⟩ : Σ' (v11058 : FVec F S8x128 .f32), FVec F S8x128 .f32 ← k0_part306 i arg1 harg1 arg2 harg2 arg3 harg3 arg4 harg4 arg5 harg5 arg6 harg6 arg7 harg7 arg8 harg8 arg9 harg9 arg10 harg10 arg11 harg11 v10474 v11023
    let ⟨v11094, v11095⟩ : Σ' (v11094 : FVec F S8x128 .f32), FVec F S8x128 .f32 ← k0_part307 i arg1 harg1 arg2 harg2 arg3 harg3 arg4 harg4 arg5 harg5 arg6 harg6 arg7 harg7 arg8 harg8 arg9 harg9 arg10 harg10 arg11 harg11 v10474 v11058 v11059
    let v11129 : FVec F S1x128 .f32 ← k0_part308 i arg1 harg1 arg2 harg2 arg3 harg3 arg4 harg4 arg5 harg5 arg6 harg6 arg7 harg7 arg8 harg8 arg9 harg9 arg10 harg10 arg11 harg11 v10474 v11094 v11095
    let ⟨v11162, v11166, v11167, v11168⟩ : Σ' (v11162 : IVec S1x128 32) (v11166 : IVec S1x128 1) (v11167 : IVec S1x128 32), IVec S1x128 32 ← k0_part309 i arg1 harg1 arg2 harg2 arg3 harg3 arg4 harg4 arg5 harg5 arg6 harg6 arg7 harg7 arg8 harg8 arg9 harg9 arg10 harg10 arg11 harg11 v11129
    let ⟨v11207, v11209⟩ : Σ' (v11207 : FVec F S1x128 .f32), IVec S1x128 32 ← k0_part310 i arg1 harg1 arg2 harg2 arg3 harg3 arg4 harg4 arg5 harg5 arg6 harg6 arg7 harg7 arg8 harg8 arg9 harg9 arg10 harg10 arg11 harg11 v11129 v11162 v11166 v11167 v11168
    let ⟨v11213, v11222, v11231, v11240, v11248⟩ : Σ' (v11213 : FVec F S1x128 .f32) (v11222 : FVec F S32x128 .fp8e4m3) (v11231 : FVec F S32x128 .fp8e4m3) (v11240 : FVec F S32x128 .fp8e4m3), FVec F S32x128 .f32 ← k0_part311 i arg1 harg1 arg2 harg2 arg3 harg3 arg4 harg4 arg5 harg5 arg6 harg6 arg7 harg7 arg8 harg8 arg9 harg9 arg10 harg10 arg11 harg11 v11129 v11209
    let ⟨v11249, v11258, v11267, v11276, v11285⟩ : Σ' (v11249 : FVec F S32x128 .fp8e4m3) (v11258 : FVec F S32x128 .fp8e4m3) (v11267 : FVec F S32x128 .fp8e4m3) (v11276 : FVec F S32x128 .fp8e4m3), FVec F S32x128 .fp8e4m3 ← k0_part312 i arg1 harg1 arg2 harg2 arg3 harg3 arg4 harg4 arg5 harg5 arg6 harg6 arg7 harg7 arg8 harg8 arg9 harg9 arg10 harg10 arg11 harg11 v11213 v11248
    let ⟨v11294, v11303, v11312, v11321, v11325⟩ : Σ' (v11294 : FVec F S32x128 .fp8e4m3) (v11303 : FVec F S32x128 .fp8e4m3) (v11312 : FVec F S32x128 .fp8e4m3) (v11321 : FVec F S32x128 .fp8e4m3), FVec F S32x128 .f32 ← k0_part313 i arg1 harg1 arg2 harg2 arg3 harg3 arg4 harg4 arg5 harg5 arg6 harg6 arg7 harg7 arg8 harg8 arg9 harg9 arg10 harg10 arg11 harg11 v11213
    let v11367 : FVec F S128x512 .f32 ← k0_part314 i arg1 harg1 arg2 harg2 arg3 harg3 arg4 harg4 arg5 harg5 arg6 harg6 arg7 harg7 arg8 harg8 arg9 harg9 arg10 harg10 arg11 harg11 v5685 v5698 v5711 v8538 v9977 v9979 v11207 v11213 v11222 v11231 v11240 v11249 v11258 v11267 v11276 v11285 v11294 v11303 v11312 v11321 v11325
    have v11368 : FVec F S512x128 .f32 := transpose S512x128 [1, 0] v11367 transposes_S128x512_p1_0_S512x128
    have v11369 : FVec F S512x128 .bf16 := truncf .bf16 v11368 bitsLt_bf16_f32
    let c2_i32_6142 : BitVec 32 := 2#32
    let v11370 : BitVec 32 := Scalar.muli v5 c2_i32_6142
    let c64_i32 : BitVec 32 := 64#32
    let v11371 : BitVec 32 := Scalar.muli v11370 c64_i32
    let v11372 : BitVec 32 := v11371
    let c0_6143 : Index := 0#32
    let c0_6144 : Index := 0#32
    let v11373 : Index := Scalar.indexCast v11372
    let v11374 : Vec F S1x512x128 .bf16 ← Prog.lift (.load arg8 (Rect.unit (s := S1x512x1024) (k0_off126 k0_t2) S1x512x128.size (k0_off126_inb k0_t2)).toLoadRect (View.loadsAt_vmem h_S1x512x128))
    have v11375 : FVec F S512x128 .bf16 := shapeCast S512x128 v11374 shapeCasts_S1x512x128_S512x128
    have v11376 : FVec F S1x512x128 .bf16 := shapeCast S1x512x128 v11369 shapeCasts_S512x128_S1x512x128
    Prog.lift (.store arg8 (Rect.unit (s := S1x512x1024) (k0_off126 k0_t2) S1x512x128.size (k0_off126_inb k0_t2)) v11376 Finset.univ (View.stores_vmem h_S1x512x128 (harg8.storeExact_slice rfl _ (k0_off126_packedbf16 k0_t2)) (fun _ => rfl)) (.inl rfl))
    pure ⟨⟩

theorem trip_eq (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_t2 : Fin k0_t2_loop.trips)
    (h0 : (Scalar.indexCast (T5.w0 k0_t2_loop.trips k0_t2)).toNat < 16) (h1 : (Scalar.indexCast (T5.w1 k0_t2_loop.trips k0_t2)).toNat < 16)
    (hb : (Scalar.indexCast (BitVec.ofNat 32 (i 0).val)).toNat < 24)
    (ho : (Scalar.indexCast (Scalar.muli (Scalar.muli (Scalar.addi 0#32 (Scalar.muli (Scf.iv 0#32 1#32 k0_t2) 1#32)) 2#32) 64#32)).toNat + 128 ≤ 1024)
    (hst : (arg8.access (T5.rectO _ ho)).Stores Finset.univ) :
    trip (F := F) i arg1 harg1 arg2 harg2 arg3 harg3 arg4 harg4 arg5 harg5 arg6 harg6 arg7 harg7 arg8 harg8 arg9 harg9 arg10 harg10 arg11 harg11 k0_t2 = T5.tripK arg9 arg10 arg11 arg1 arg2 arg3 arg4 arg5 arg6 arg7 arg8 (Named.named κ "log2_e" 0x3FB8AA3B#32) _ _ _ _ h0 h1 hb ho hst :=
  rfl

end Cert.KernelIdeal
-- ==== Proof.BodyI.lean ====
module

public import proofs.«01_k».proof.Proof.Heads
public import proofs.«01_k».proof.Proof.SameI

@[expose] public section

set_option maxRecDepth 100000
set_option maxHeartbeats 0

namespace Cert.KernelIdeal

open Idealize.ShloMosaic Idealize.SL.Sem
open Facts₀ Facts

variable {F : FTy → Type} [FloatOps F] [Named F]
variable [Facts]

/-- One trip of the printed body's loop over the heads of the bias table. -/
noncomputable def tab (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_h1 : k0_cond1 i = 1#1) (k0_t1 : Fin k0_t1_loop.trips) : Prog (TpuEff nD τ sig (Elt F) Λ₀ .tc) PUnit := do
    let c0_i32_3 : BitVec 32 := 0#32
    let c1_i32_4 : BitVec 32 := 1#32
    have v8 : IVec S320x128 32 := T5.dist
    have v9 : IVec S320x128 32 := absi T5.dist
    let ⟨v12, v42, v48, v50, v53⟩ : Σ' (v12 : BitVec 32) (v42 : FVec F S320x128 .f32) (v48 : FVec F S320x128 .f32) (v50 : IVec S320x128 1), FVec F S320x128 .f32 ← k0_part1 i arg1 harg1 arg2 harg2 arg3 harg3 arg4 harg4 arg5 harg5 arg6 harg6 arg7 harg7 arg8 harg8 arg9 harg9 arg10 harg10 arg11 harg11 k0_h1 v9 c0_i32_3 c1_i32_4 k0_t1
    let ⟨v90, v96, v98⟩ : Σ' (v90 : FVec F S320x128 .f32) (v96 : FVec F S320x128 .f32), IVec S320x128 1 ← k0_part2 i arg1 harg1 arg2 harg2 arg3 harg3 arg4 harg4 arg5 harg5 arg6 harg6 arg7 harg7 arg8 harg8 arg9 harg9 arg10 harg10 arg11 harg11 k0_h1 v9 k0_t1 v12 v42 v48 v50 v53
    let ⟨v132, v138, v140, v143⟩ : Σ' (v132 : FVec F S320x128 .f32) (v138 : FVec F S320x128 .f32) (v140 : IVec S320x128 1), FVec F S320x128 .f32 ← k0_part3 i arg1 harg1 arg2 harg2 arg3 harg3 arg4 harg4 arg5 harg5 arg6 harg6 arg7 harg7 arg8 harg8 arg9 harg9 arg10 harg10 arg11 harg11 k0_h1 v9 k0_t1 v12 v90 v96 v98
    let ⟨v180, v186, v188⟩ : Σ' (v180 : FVec F S320x128 .f32) (v186 : FVec F S320x128 .f32), IVec S320x128 1 ← k0_part4 i arg1 harg1 arg2 harg2 arg3 harg3 arg4 harg4 arg5 harg5 arg6 harg6 arg7 harg7 arg8 harg8 arg9 harg9 arg10 harg10 arg11 harg11 k0_h1 v9 k0_t1 v12 v132 v138 v140 v143
    let v189 : Index := Scalar.indexCast v12
    let c15 : Index := 15#32
    let v190 : Elt F .f32 ← smemLoad arg4 (Rect.unit (s := S16x32) (k0_off31 k0_t1) S1x1.size (k0_off31_inb i k0_t1 k0_h1)) numel1_S1x1 rfl
    have v191 : FVec F S320x128 .f32 := broadcast S320x128 v190
    have v192 : FVec F S320x128 .f32 := select v188 v191 v180
    let c91_i32_25 : BitVec 32 := 91#32
    have v193 : IVec S320x128 32 := broadcast S320x128 c91_i32_25
    have v194 : IVec S320x128 1 := cmpi .sge v9 v193
    let v195 : Index := Scalar.indexCast v12
    let c31 : Index := 31#32
    let v196 : Elt F .f32 ← smemLoad arg4 (Rect.unit (s := S16x32) (k0_off32 k0_t1) S1x1.size (k0_off32_inb i k0_t1 k0_h1)) numel1_S1x1 rfl
    have v197 : FVec F S320x128 .f32 := broadcast S320x128 v196
    have v198 : FVec F S320x128 .f32 := select v194 v197 v186
    let c0_i32_26 : BitVec 32 := 0#32
    have v199 : IVec S320x128 32 := broadcast S320x128 c0_i32_26
    have v200 : IVec S320x128 1 := cmpi .sgt v8 v199
    have v201 : FVec F S320x128 .f32 := select v200 v198 v192
    have cst : F .f32 := Named.named κ "log2_e" 0x3FB8AA3B#32
    have v202 : FVec F S320x128 .f32 := broadcast S320x128 cst
    have v203 : FVec F S320x128 .f32 := mulf v201 v202
    let v204 : Index := Scalar.indexCast v12
    let c0_27 : Index := 0#32
    let c0_28 : Index := 0#32
    let v205 : Vec F S1x320x128 .f32 ← Prog.lift (.load arg9 (Rect.unit (s := S16x320x128) (k0_off33 k0_t1) S1x320x128.size (k0_off33_inb i k0_t1 k0_h1)).toLoadRect (View.loadsAt_vmem h_S1x320x128))
    have v206 : FVec F S320x128 .f32 := shapeCast S320x128 v205 shapeCasts_S1x320x128_S320x128
    have v207 : FVec F S1x320x128 .f32 := shapeCast S1x320x128 v203 shapeCasts_S320x128_S1x320x128
    Prog.lift (.store arg9 (Rect.unit (s := S16x320x128) (k0_off33 k0_t1) S1x320x128.size (k0_off33_inb i k0_t1 k0_h1)) v207 Finset.univ (View.stores_vmem_bits_univ h_S1x320x128 rfl) (.inl rfl))
    pure ⟨⟩

/-- The word of the head that trip `t` of that loop writes. -/
def wt (n : Nat) (t : Fin n) : BitVec 32 := Scalar.addi 0#32 (Scalar.muli (Scf.iv 0#32 1#32 t) 1#32)

theorem tab_eq (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_h1 : k0_cond1 i = 1#1) (k0_t1 : Fin k0_t1_loop.trips)
    (hh : (Scalar.indexCast (wt k0_t1_loop.trips k0_t1)).toNat < 16) :
    tab (F := F) i arg1 harg1 arg2 harg2 arg3 harg3 arg4 harg4 arg5 harg5 arg6 harg6 arg7 harg7 arg8 harg8 arg9 harg9 arg10 harg10 arg11 harg11 k0_h1 k0_t1 = T5.tabK arg9 arg4 (Named.named κ "log2_e" 0x3FB8AA3B#32) _ hh :=
  rfl

/-- The loop over the pairs of heads. -/
noncomputable def pairs (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole) : Prog (TpuEff nD τ sig (Elt F) Λ₀ .tc) PUnit :=
  (Scf.Loop.for k0_t2_loop k0_t2_ok (⟨⟩ : PUnit) fun k0_t2 _ => trip i arg1 harg1 arg2 harg2 arg3 harg3 arg4 harg4 arg5 harg5 arg6 harg6 arg7 harg7 arg8 harg8 arg9 harg9 arg10 harg10 arg11 harg11 k0_t2) >>= fun _ => pure PUnit.unit

/-- The printed body: the table at the first grid point, then the pairs of heads. -/
theorem body_eq (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole) :
    cc0__body (F := F) i arg1 harg1 arg2 harg2 arg3 harg3 arg4 harg4 arg5 harg5 arg6 harg6 arg7 harg7 arg8 harg8 arg9 harg9 arg10 harg10 arg11 harg11
      = if k0_h1 : k0_cond1 i = 1#1 then
          (Scf.Loop.for k0_t1_loop (k0_t1_ok i k0_h1) (⟨⟩ : PUnit) fun k0_t1 _ => tab i arg1 harg1 arg2 harg2 arg3 harg3 arg4 harg4 arg5 harg5 arg6 harg6 arg7 harg7 arg8 harg8 arg9 harg9 arg10 harg10 arg11 harg11 k0_h1 k0_t1) >>= fun _ => pairs i arg1 harg1 arg2 harg2 arg3 harg3 arg4 harg4 arg5 harg5 arg6 harg6 arg7 harg7 arg8 harg8 arg9 harg9 arg10 harg10 arg11 harg11
        else pairs i arg1 harg1 arg2 harg2 arg3 harg3 arg4 harg4 arg5 harg5 arg6 harg6 arg7 harg7 arg8 harg8 arg9 harg9 arg10 harg10 arg11 harg11 :=
  rfl

end Cert.KernelIdeal
-- ==== Proof.PipeI.lean ====
module

public import proofs.«01_k».proof.Proof.BodyI
public import proofs.«01_k».proof.Proof.Gen.KernelIdeal.Frame
public import Idealize.ShloMosaic.Lib.Claim

@[expose] public section

set_option maxRecDepth 16384

noncomputable section

/-! The body at a grid point from the invariant to the invariant, and the run of the whole program. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

local notation "𝕄" => MT nD τ sig Unit (Elt F) ℕ (UR sig nD τ) ℕ

/-! ## The printed loop counters and offsets -/

theorem trips1 : k0_t1_loop.trips = 16 := by decide
theorem trips2 : k0_t2_loop.trips = 8 := by decide
theorem word_t : ∀ t : Fin k0_t1_loop.trips, (Scalar.indexCast (wt k0_t1_loop.trips t)).toNat = t.val := by decide
theorem word_0 : ∀ t : Fin k0_t2_loop.trips, (Scalar.indexCast (T5.w0 k0_t2_loop.trips t)).toNat = 2 * t.val := by decide
theorem word_1 : ∀ t : Fin k0_t2_loop.trips, (Scalar.indexCast (T5.w1 k0_t2_loop.trips t)).toNat = 2 * t.val + 1 := by decide
theorem word_o : ∀ t : Fin k0_t2_loop.trips,
    (Scalar.indexCast (Scalar.muli (Scalar.muli (Scalar.addi 0#32 (Scalar.muli (Scf.iv 0#32 1#32 t) 1#32)) 2#32) 64#32)).toNat = 128 * t.val := by decide
theorem word_b : ∀ t : Fin grid0.N, (Scalar.indexCast (BitVec.ofNat 32 (grid0.coords t 0).val)).toNat = t.val := by decide
theorem cond_iff : ∀ t : Fin grid0.N, k0_cond1 (grid0.coords t) = 1#1 ↔ t.val = 0 := by decide

variable {c : Dev nD}

/-- The value the scale and the biases are multiplied by. -/
abbrev lv : F .f32 := Named.named κ "log2_e" 0x3FB8AA3B#32

section body

variable (t : Fin grid0.N)
variable {arg1 : Memref sig .tc .smem S16x24 .f32} {harg1 : arg1.IsWhole} {arg2 : Memref sig .tc .smem S16x24 .f32} {harg2 : arg2.IsWhole} {arg3 : Memref sig .tc .smem S16x24 .f32} {harg3 : arg3.IsWhole} {arg4 : Memref sig .tc .smem S16x32 .f32} {harg4 : arg4.IsWhole} {arg5 : Memref sig .tc .vmem S1x16x64x512 .fp8e4m3} {harg5 : arg5.IsWhole} {arg6 : Memref sig .tc .vmem S1x16x64x512 .fp8e4m3} {harg6 : arg6.IsWhole} {arg7 : Memref sig .tc .vmem S1x16x64x512 .fp8e4m3} {harg7 : arg7.IsWhole} {arg8 : Memref sig .tc .vmem S1x512x1024 .bf16} {harg8 : arg8.IsWhole} {arg9 : Memref sig .tc .vmem S16x320x128 .f32} {harg9 : arg9.IsWhole} {arg10 : Memref sig .tc .vmem S2x512x512 .f32} {harg10 : arg10.IsWhole} {arg11 : Memref sig .tc .vmem S2x512x512 .f32} {harg11 : arg11.IsWhole}
variable {X1 X2 X3 : FVec F T5.HSc .f32} {X4 : FVec F T5.HBi .f32} {X5 X6 X7 : FVec F T5.HQ .fp8e4m3} {T : FVec F T5.HT .f32}

/-- What the loop over the pairs holds after `k` trips. -/
def pairsInv (c : Dev nD) (arg1 : Memref sig .tc .smem S16x24 .f32) (arg2 : Memref sig .tc .smem S16x24 .f32) (arg3 : Memref sig .tc .smem S16x24 .f32) (arg4 : Memref sig .tc .smem S16x32 .f32) (arg5 : Memref sig .tc .vmem S1x16x64x512 .fp8e4m3) (arg6 : Memref sig .tc .vmem S1x16x64x512 .fp8e4m3) (arg7 : Memref sig .tc .vmem S1x16x64x512 .fp8e4m3) (arg8 : Memref sig .tc .vmem S1x512x1024 .bf16) (arg9 : Memref sig .tc .vmem S16x320x128 .f32) (arg10 arg11 : Memref sig .tc .vmem S2x512x512 .f32)
    (X1 X2 X3 : FVec F T5.HSc .f32) (X4 : FVec F T5.HBi .f32) (X5 X6 X7 : FVec F T5.HQ .fp8e4m3) (T : FVec F T5.HT .f32) (b : Fin 24) (k : Nat) (_ : PUnit) : sProp 𝕄 :=
  iprop(T5.ins c arg1 arg2 arg3 arg4 arg5 arg6 arg7 X1 X2 X3 X4 X5 X6 X7 ∗ T5.scr c arg9 arg10 arg11 T
    ∗ ∃ X8 : FVec F T5.HO .bf16, ⌜∀ p : T5.HO.Idx, (p 2).val < 128 * k → X8 p = T5.blockOut X1 X2 X3 X4 X5 X6 X7 T lv b.val b.isLt p⌝ ∗ T5.own c arg8 X8)

theorem trip_sound (hN : t.val < 24) (k : Fin k0_t2_loop.trips) (u : PUnit) :
    pairsInv (F := F) c arg1 arg2 arg3 arg4 arg5 arg6 arg7 arg8 arg9 arg10 arg11 X1 X2 X3 X4 X5 X6 X7 T ⟨t.val, hN⟩ k.val u
      ⊢ T5.WP (defs₀ (F := F)) c (trip (F := F) (grid0.coords t) arg1 harg1 arg2 harg2 arg3 harg3 arg4 harg4 arg5 harg5 arg6 harg6 arg7 harg7 arg8 harg8 arg9 harg9 arg10 harg10 arg11 harg11 k)
          (pairsInv (F := F) c arg1 arg2 arg3 arg4 arg5 arg6 arg7 arg8 arg9 arg10 arg11 X1 X2 X3 X4 X5 X6 X7 T ⟨t.val, hN⟩ (k.val + 1)) := by
  have hk : k.val < 8 := trips2 ▸ k.isLt
  have e0 := word_0 k
  have e1 := word_1 k
  have eo := word_o k
  have eb := word_b t
  rw [trip_eq _ _ _ _ _ _ _ _ _ _ _ _ _ _ _ _ _ _ _ _ _ _ _ _ (by omega) (by omega) (by omega) (by omega)
    (View.stores_vmem T5.pos_o (harg8.storeExact_slice rfl _ (k0_off126_packedbf16 k)) (fun _ => rfl))]
  unfold pairsInv
  iintro ⟨Hi, Hs, ⟨%X8, %hX, H8⟩⟩
  iapply T5.wp_tripK $$ [Hi H8 Hs]
  · isplitl [Hi]; · iexact Hi
    isplitl [H8]; · iexact H8
    iexact Hs
  iintro Hi H8 Hs
  isplitl [Hi]; · iexact Hi
  isplitl [Hs]; · iexact Hs
  iexists _
  isplitr
  swap
  · iexact H8
  ipureintro
  exact T5.cols_upd eb _ e0 e1 eo hX

theorem pairs_sound (hN : t.val < 24) {Q : PUnit → sProp 𝕄} :
    iprop(T5.ins c arg1 arg2 arg3 arg4 arg5 arg6 arg7 X1 X2 X3 X4 X5 X6 X7 ∗ T5.scr c arg9 arg10 arg11 T ∗ ∃ X8 : FVec F T5.HO .bf16, T5.own c arg8 X8)
      ⊢ iprop((T5.ins c arg1 arg2 arg3 arg4 arg5 arg6 arg7 X1 X2 X3 X4 X5 X6 X7 -∗ T5.scr c arg9 arg10 arg11 T
          -∗ T5.own c arg8 (T5.blockOut X1 X2 X3 X4 X5 X6 X7 T lv t.val hN) -∗ Q ⟨⟩)
        -∗ T5.WP (defs₀ (F := F)) c (pairs (F := F) (grid0.coords t) arg1 harg1 arg2 harg2 arg3 harg3 arg4 harg4 arg5 harg5 arg6 harg6 arg7 harg7 arg8 harg8 arg9 harg9 arg10 harg10 arg11 harg11) Q) := by
  unfold pairs
  iintro ⟨Hi, Hs, ⟨%X8, H8⟩⟩ Hk
  iapply (Scf.wp_for_bind frame (wpE (defs₀ (F := F)) Variants.none (c : Thread nD τ) none) Set.univ _ _ _ k0_t2_ok _ _
    (pairsInv (F := F) c arg1 arg2 arg3 arg4 arg5 arg6 arg7 arg8 arg9 arg10 arg11 X1 X2 X3 X4 X5 X6 X7 T ⟨t.val, hN⟩)
    (trip_sound t hN)) $$ [Hi Hs H8]
  · unfold pairsInv
    isplitl [Hi]; · iexact Hi
    isplitl [Hs]; · iexact Hs
    iexists X8
    isplitr
    · ipureintro
      intro p hp
      omega
    iexact H8
  unfold pairsInv
  iintro %s ⟨Hi, Hs, ⟨%Y, %hY, H8⟩⟩
  iapply (le_wp_ret _ _)
  have hY' : Y = T5.blockOut X1 X2 X3 X4 X5 X6 X7 T lv t.val hN := by
    funext p
    refine hY p ?_
    have : (p 2).val < 1024 := (p 2).isLt
    rw [show Scf.trips _ _ _ = 8 from trips2]
    omega
  subst hY'
  iapply Hk $$ Hi Hs H8

/-- What the loop over the heads of the table holds after `k` trips. -/
def tabInv (c : Dev nD) (arg4 : Memref sig .tc .smem S16x32 .f32) (arg9 : Memref sig .tc .vmem S16x320x128 .f32)
    (X4 : FVec F T5.HBi .f32) (k : Nat) (_ : PUnit) : sProp 𝕄 :=
  iprop(T5.own c arg4 X4 ∗ ∃ T : FVec F T5.HT .f32, ⌜∀ p : T5.HT.Idx, (p 0).val < k → T p = T5.tabFull X4 lv p⌝ ∗ T5.own c arg9 T)

theorem tab_sound (h1 : k0_cond1 (grid0.coords t) = 1#1) (k : Fin k0_t1_loop.trips) (u : PUnit) :
    tabInv (F := F) c arg4 arg9 X4 k.val u
      ⊢ T5.WP (defs₀ (F := F)) c (tab (F := F) (grid0.coords t) arg1 harg1 arg2 harg2 arg3 harg3 arg4 harg4 arg5 harg5 arg6 harg6 arg7 harg7 arg8 harg8 arg9 harg9 arg10 harg10 arg11 harg11 h1 k)
          (tabInv (F := F) c arg4 arg9 X4 (k.val + 1)) := by
  have hk : k.val < 16 := trips1 ▸ k.isLt
  have e := word_t k
  rw [tab_eq _ _ _ _ _ _ _ _ _ _ _ _ _ _ _ _ _ _ _ _ _ _ _ _ _ (by omega)]
  unfold tabInv
  iintro ⟨H4, ⟨%T0, %hT, H9⟩⟩
  iapply T5.wp_tabK $$ [H4 H9]
  · isplitl [H4]; · iexact H4
    iexact H9
  iintro H4 H9
  isplitl [H4]; · iexact H4
  iexists _
  isplitr
  swap
  · iexact H9
  ipureintro
  exact T5.rows_upd _ e hT

/-- The body at a point: the table in its scratch buffer is there from the first point on. -/
theorem sound_at (hN : t.val < 24) {Q : PUnit → sProp 𝕄} (TB : FVec F T5.HT .f32) (h0 : t.val = 0 → TB = T5.tabFull X4 lv) :
    iprop(T5.ins c arg1 arg2 arg3 arg4 arg5 arg6 arg7 X1 X2 X3 X4 X5 X6 X7
        ∗ (∃ T : FVec F T5.HT .f32, ⌜0 < t.val → T = TB⌝ ∗ T5.own c arg9 T)
        ∗ (∃ X : FVec F T5.HS .f32, T5.own c arg10 X) ∗ (∃ Y : FVec F T5.HS .f32, T5.own c arg11 Y) ∗ ∃ X8 : FVec F T5.HO .bf16, T5.own c arg8 X8)
      ⊢ iprop((T5.ins c arg1 arg2 arg3 arg4 arg5 arg6 arg7 X1 X2 X3 X4 X5 X6 X7 -∗ T5.scr c arg9 arg10 arg11 TB
          -∗ T5.own c arg8 (T5.blockOut X1 X2 X3 X4 X5 X6 X7 TB lv t.val hN) -∗ Q ⟨⟩)
        -∗ T5.WP (defs₀ (F := F)) c (cc0__body (F := F) (grid0.coords t) arg1 harg1 arg2 harg2 arg3 harg3 arg4 harg4 arg5 harg5 arg6 harg6 arg7 harg7 arg8 harg8 arg9 harg9 arg10 harg10 arg11 harg11) Q) := by
  rw [body_eq]
  iintro ⟨Hi, ⟨%T0, %hT, H9⟩, H10, H11, H8⟩ Hk
  by_cases h1 : k0_cond1 (grid0.coords t) = 1#1
  · rw [dif_pos h1]
    have hTB := h0 ((cond_iff t).1 h1)
    icases Hi with ⟨H1, H2, H3, H4, H5, H6, H7⟩
    iapply (Scf.wp_for_bind frame (wpE (defs₀ (F := F)) Variants.none (c : Thread nD τ) none) Set.univ _ _ _ (k0_t1_ok _ h1) _ _
      (tabInv (F := F) c arg4 arg9 X4) (tab_sound t h1)) $$ [H4 H9]
    · unfold tabInv
      isplitl [H4]; · iexact H4
      iexists T0
      isplitr
      · ipureintro
        intro p hp
        omega
      iexact H9
    unfold tabInv
    iintro %s ⟨H4, ⟨%Y, %hY, H9⟩⟩
    have hY' : Y = TB := by
      rw [hTB]
      funext p
      refine hY p ?_
      rw [show Scf.trips _ _ _ = 16 from trips1]
      exact (p 0).isLt
    subst hY'
    iapply (pairs_sound t hN) $$ [H1 H2 H3 H4 H5 H6 H7 H8 H9 H10 H11]
    · isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitr [H8]
      · isplitl [H9]; · iexact H9
        isplitl [H10]; · iexact H10
        iexact H11
      iexact H8
    iexact Hk
  · rw [dif_neg h1]
    have ht : 0 < t.val := Nat.pos_of_ne_zero fun h => h1 ((cond_iff t).2 h)
    obtain rfl := hT ht
    iapply (pairs_sound t hN) $$ [Hi H8 H9 H10 H11]
    · isplitl [Hi]; · iexact Hi
      isplitr [H8]
      · isplitl [H9]; · iexact H9
        isplitl [H10]; · iexact H10
        iexact H11
      iexact H8
    iexact Hk

end body

variable (m : (ℓ : Loc nD τ sig) → Buf (Elt F) ℓ) (ρ : Dev nD → PrngReg)

theorem lt_24 (t : Fin cfg0.N) : t.val < 24 := N_0 ▸ t.isLt

/-- The first grid point. -/
def first : Fin cfg0.N := ⟨0, by rw [show cfg0.N = 24 from N_0]; decide⟩

/-- The bias table the first point builds. -/
def table (c : Dev nD) : FVec F T5.HT .f32 := T5.tabFull (iblk m c 3 first) lv

/-- What a point writes. -/
def outAt (c : Dev nD) (t : Fin cfg0.N) : FVec F T5.HO .bf16 :=
  T5.blockOut (iblk m c 0 t) (iblk m c 1 t) (iblk m c 2 t) (iblk m c 3 t) (iblk m c 4 t) (iblk m c 5 t) (iblk m c 6 t) (table m c) lv t.val (lt_24 t)

/-- The proof data: the invariant keeps the bias table in its scratch buffer from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := iprop((∃ T : FVec F T5.HT .f32, ⌜0 < t.val → T = table m c⌝ ∗ T5.own c (Memref.whole cc0_scratch0) T)
    ∗ (∃ X : FVec F T5.HS .f32, T5.own c (Memref.whole cc0_scratch1) X) ∗ (∃ Y : FVec F T5.HS .f32, T5.own c (Memref.whole cc0_scratch2) Y)
    ∗ ∃ r, prngReg c r)
  q _ := fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t =
    iprop((∃ T : FVec F T5.HT .f32, ⌜0 < t.val → T = table m c⌝ ∗ T5.own c (Memref.whole cc0_scratch0) T)
    ∗ (∃ X : FVec F T5.HS .f32, T5.own c (Memref.whole cc0_scratch1) X) ∗ (∃ Y : FVec F T5.HS .f32, T5.own c (Memref.whole cc0_scratch2) Y)
    ∗ ∃ r, prngReg c r) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Φ_eq, Φ_eq,
    show (dats m 0 c).owesAt () t.succ = (dats m 0 c).owesAt () t.castSucc from rfl,
    after0_0, after0_1, after0_2, after0_3, after0_4, after0_5, after0_6, after0_7]
  iintro ⟨⟨HT, H10, H11, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_at (F := F) (c := c) t (lt_24 t) (table m c) (X1 := iblk m c 0 t) (X2 := iblk m c 1 t) (X3 := iblk m c 2 t) (X4 := iblk m c 3 t)
    (X5 := iblk m c 4 t) (X6 := iblk m c 5 t) (X7 := iblk m c 6 t) (fun h => by
      have e : t = first := Fin.ext h
      subst e; rfl)) $$ [HT H10 H11 H0 H1 H2 H3 H4 H5 H6 H7]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HT]; · iexact HT
    isplitl [H10]; · iexact H10
    isplitl [H11]; · iexact H11
    iexists _; iexact H7
  iintro ⟨H0, H1, H2, H3, H4, H5, H6⟩ ⟨HT, H10, H11⟩ H7
  isplitl [HT H10 H11 Hr]
  · isplitl [HT]
    · iexists (table m c)
      isplitr
      · ipureintro; intro _; rfl
      iexact HT
    isplitl [H10]; · iexact H10
    isplitl [H11]; · iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The class's invariant gives ours before the first point, -/
theorem hin (c : Dev nD) : Pipeline.ΦA spec0 c ⊢ (dats (F := F) m 0 c).Φ 0 := by
  rw [Φ_eq]
  unfold Pipeline.ΦA T5.own
  rw [scopedRest0_eq]
  simp only [owns_whole]
  iintro ⟨⟨⟨%f, H9⟩, ⟨%g, H10⟩, ⟨%h, H11⟩⟩, Hr⟩
  isplitl [H9]
  · iexists f
    isplitr
    · ipureintro; intro h; exact absurd h (Nat.lt_irrefl 0)
    iexact H9
  isplitl [H10]; · iexists g; iexact H10
  isplitl [H11]; · iexists h; iexact H11
  iexact Hr

/-- and takes it back after the last. -/
theorem hout (c : Dev nD) : (dats (F := F) m 0 c).Φ (Fin.last cfg0.N) ⊢ Pipeline.ΦA spec0 c := by
  rw [Φ_eq]
  unfold Pipeline.ΦA T5.own
  rw [scopedRest0_eq]
  simp only [owns_whole]
  iintro ⟨⟨%f, %hf, H9⟩, ⟨%g, H10⟩, ⟨%h, H11⟩, Hr⟩
  isplitl [H9 H10 H11]
  · isplitl [H9]; · iexists f; iexact H9
    isplitl [H10]; · iexists g; iexact H10
    iexists h; iexact H11
  iexact Hr

set_option backward.isDefEq.respectTransparency.types false in
set_option maxHeartbeats 800000 in
/-- The run: the pipeline's arrays end at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.KerVal.lean ====
module

public import proofs.«01_k».proof.Proof.HeadVal
public import proofs.«01_k».proof.Proof.Spec
public import proofs.«01_k».proof.Proof.PipeI
public import Idealize.ShloMosaic.Lib.Pipeline.Value

@[expose] public section

noncomputable section

/-! The kernel's result over the extended reals: the attention of its arguments. -/

namespace Cert.KernelIdeal.Value

open Cert.KernelIdeal Cert.KernelIdeal.Gen Idealize.ShloMosaic Idealize.ShloMosaic.TcCoe Idealize.SL.Sem
open Idealize.ShloMosaic.Pipeline (Dat)
open T5 (A4 A2 AB AO HSc HBi HQ HO L2 attn attnAt argX xOf kerOut)

variable (m : (ℓ : Loc nD τ sig) → Buf (Elt Ideal) ℓ) (ρ : Dev nD → PrngReg) (c : Dev nD)

/-- The named constant is `1 / log 2`. -/
theorem lv_eq : (lv (F := Ideal) : EReal) = L2 := rfl

/-! ## The arguments -/

/-- The queries. -/
abbrev aQ : FVec Ideal A4 .fp8e4m3 := m ((c.tc : Thread nD τ).loc main_arg0)
/-- The keys. -/
abbrev aK : FVec Ideal A4 .fp8e4m3 := m ((c.tc : Thread nD τ).loc main_arg1)
/-- The values. -/
abbrev aV : FVec Ideal A4 .fp8e4m3 := m ((c.tc : Thread nD τ).loc main_arg2)
/-- The queries' scales. -/
abbrev aqs : FVec Ideal A2 .f32 := m ((c.tc : Thread nD τ).loc main_arg3)
/-- The keys' scales. -/
abbrev aks : FVec Ideal A2 .f32 := m ((c.tc : Thread nD τ).loc main_arg4)
/-- The values' scales. -/
abbrev avs : FVec Ideal A2 .f32 := m ((c.tc : Thread nD τ).loc main_arg5)
/-- The bias words. -/
abbrev aB : FVec Ideal AB .bf16 := m ((c.tc : Thread nD τ).loc main_arg6)

/-! ## The arrays the windows read: the arguments, transposed -/

/-- The array holds the argument transposed. -/
theorem V0_apply (h : Fin 16) (b : Fin 24) : (V m c main_v0 : FVec Ideal S16x24 .f32) (ix2 h b) = aqs m c (ix2 b h) := by
  entry_read
  pointwise
/-- The array holds the argument transposed. -/
theorem V1_apply (h : Fin 16) (b : Fin 24) : (V m c main_v1 : FVec Ideal S16x24 .f32) (ix2 h b) = aks m c (ix2 b h) := by
  entry_read
  pointwise
/-- The array holds the argument transposed. -/
theorem V2_apply (h : Fin 16) (b : Fin 24) : (V m c main_v2 : FVec Ideal S16x24 .f32) (ix2 h b) = avs m c (ix2 b h) := by
  entry_read
  pointwise
/-- The array holds the argument transposed. -/
theorem V4_apply (h : Fin 16) (n : Fin 32) : ((V m c main_v4 : FVec Ideal S16x32 .f32) (ix2 h n) : EReal) = aB m c (ix2 n h) := by
  entry_read
  pointwise
/-- The array holds the argument transposed. -/
theorem V5_apply (b : Fin 24) (h : Fin 16) (f : Fin 64) (k : Fin 512) :
    (V m c main_v5 : FVec Ideal S24x16x64x512 .fp8e4m3) (ix4 b h f k) = aQ m c (ix4 b k h f) := by
  entry_read
  pointwise
/-- The array holds the argument transposed. -/
theorem V6_apply (b : Fin 24) (h : Fin 16) (f : Fin 64) (k : Fin 512) :
    (V m c main_v6 : FVec Ideal S24x16x64x512 .fp8e4m3) (ix4 b h f k) = aK m c (ix4 b k h f) := by
  entry_read
  pointwise
/-- The array holds the argument transposed. -/
theorem V7_apply (b : Fin 24) (h : Fin 16) (f : Fin 64) (k : Fin 512) :
    (V m c main_v7 : FVec Ideal S24x16x64x512 .fp8e4m3) (ix4 b h f k) = aV m c (ix4 b k h f) := by
  entry_read
  pointwise

/-! ## The blocks -/

/-- Where the window's block starts at each grid point. -/
theorem idx0 : ∀ t : Fin cfg0.N, win0_0.index t (0 : Fin 2) = 0 ∧ win0_0.index t (1 : Fin 2) = 0 := (by decide +kernel : ∀ t : Fin grid0.N, _)
/-- Where the window's block starts at each grid point. -/
theorem idx1 : ∀ t : Fin cfg0.N, win0_1.index t (0 : Fin 2) = 0 ∧ win0_1.index t (1 : Fin 2) = 0 := (by decide +kernel : ∀ t : Fin grid0.N, _)
/-- Where the window's block starts at each grid point. -/
theorem idx2 : ∀ t : Fin cfg0.N, win0_2.index t (0 : Fin 2) = 0 ∧ win0_2.index t (1 : Fin 2) = 0 := (by decide +kernel : ∀ t : Fin grid0.N, _)
/-- Where the window's block starts at each grid point. -/
theorem idx3 : ∀ t : Fin cfg0.N, win0_3.index t (0 : Fin 2) = 0 ∧ win0_3.index t (1 : Fin 2) = 0 := (by decide +kernel : ∀ t : Fin grid0.N, _)
/-- Where the window's block starts at each grid point. -/
theorem idx4 : ∀ t : Fin cfg0.N, win0_4.index t (0 : Fin 4) = t.val ∧ win0_4.index t (1 : Fin 4) = 0 ∧ win0_4.index t (2 : Fin 4) = 0
    ∧ win0_4.index t (3 : Fin 4) = 0 := (by decide +kernel : ∀ t : Fin grid0.N, _)
/-- Where the window's block starts at each grid point. -/
theorem idx5 : ∀ t : Fin cfg0.N, win0_5.index t (0 : Fin 4) = t.val ∧ win0_5.index t (1 : Fin 4) = 0 ∧ win0_5.index t (2 : Fin 4) = 0
    ∧ win0_5.index t (3 : Fin 4) = 0 := (by decide +kernel : ∀ t : Fin grid0.N, _)
/-- Where the window's block starts at each grid point. -/
theorem idx6 : ∀ t : Fin cfg0.N, win0_6.index t (0 : Fin 4) = t.val ∧ win0_6.index t (1 : Fin 4) = 0 ∧ win0_6.index t (2 : Fin 4) = 0
    ∧ win0_6.index t (3 : Fin 4) = 0 := (by decide +kernel : ∀ t : Fin grid0.N, _)
/-- Where the window's block starts at each grid point. -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- The window's block, at an element of the argument. -/
theorem blk0_apply (t : Fin cfg0.N) (h : Fin 16) (b : Fin 24) : ((iblk m c 0 t : FVec Ideal HSc .f32) (ix2 h b) : EReal) = aqs m c (ix2 b h) := by
  obtain ⟨e0, e1⟩ := idx0 t
  refine Eq.trans ?_ (V0_apply m c h b)
  show (V m c main_v0 : FVec Ideal S16x24 .f32) (((cfg0.win 0).blk t).view.emb (ix2 h b : S16x24.Idx)) = _
  refine congrArg (V m c main_v0 : FVec Ideal S16x24 .f32) (funext fun a => Fin.ext ?_)
  match a with
  | ⟨0, _⟩ => show win0_0.index t (0 : Fin 2) * 16 + 1 * h.val = h.val; omega
  | ⟨1, _⟩ => show win0_0.index t (1 : Fin 2) * 24 + 1 * b.val = b.val; omega

/-- The window's block, at an element of the argument. -/
theorem blk1_apply (t : Fin cfg0.N) (h : Fin 16) (b : Fin 24) : ((iblk m c 1 t : FVec Ideal HSc .f32) (ix2 h b) : EReal) = aks m c (ix2 b h) := by
  obtain ⟨e0, e1⟩ := idx1 t
  refine Eq.trans ?_ (V1_apply m c h b)
  show (V m c main_v1 : FVec Ideal S16x24 .f32) (((cfg0.win 1).blk t).view.emb (ix2 h b : S16x24.Idx)) = _
  refine congrArg (V m c main_v1 : FVec Ideal S16x24 .f32) (funext fun a => Fin.ext ?_)
  match a with
  | ⟨0, _⟩ => show win0_1.index t (0 : Fin 2) * 16 + 1 * h.val = h.val; omega
  | ⟨1, _⟩ => show win0_1.index t (1 : Fin 2) * 24 + 1 * b.val = b.val; omega

/-- The window's block, at an element of the argument. -/
theorem blk2_apply (t : Fin cfg0.N) (h : Fin 16) (b : Fin 24) : ((iblk m c 2 t : FVec Ideal HSc .f32) (ix2 h b) : EReal) = avs m c (ix2 b h) := by
  obtain ⟨e0, e1⟩ := idx2 t
  refine Eq.trans ?_ (V2_apply m c h b)
  show (V m c main_v2 : FVec Ideal S16x24 .f32) (((cfg0.win 2).blk t).view.emb (ix2 h b : S16x24.Idx)) = _
  refine congrArg (V m c main_v2 : FVec Ideal S16x24 .f32) (funext fun a => Fin.ext ?_)
  match a with
  | ⟨0, _⟩ => show win0_2.index t (0 : Fin 2) * 16 + 1 * h.val = h.val; omega
  | ⟨1, _⟩ => show win0_2.index t (1 : Fin 2) * 24 + 1 * b.val = b.val; omega

/-- The window's block, at an element of the argument. -/
theorem blk3_apply (t : Fin cfg0.N) (h : Fin 16) (b : Fin 32) : ((iblk m c 3 t : FVec Ideal HBi .f32) (ix2 h b) : EReal) = aB m c (ix2 b h) := by
  obtain ⟨e0, e1⟩ := idx3 t
  refine Eq.trans ?_ (V4_apply m c h b)
  show (V m c main_v4 : FVec Ideal S16x32 .f32) (((cfg0.win 3).blk t).view.emb (ix2 h b : S16x32.Idx)) = _
  refine congrArg (V m c main_v4 : FVec Ideal S16x32 .f32) (funext fun a => Fin.ext ?_)
  match a with
  | ⟨0, _⟩ => show win0_3.index t (0 : Fin 2) * 16 + 1 * h.val = h.val; omega
  | ⟨1, _⟩ => show win0_3.index t (1 : Fin 2) * 32 + 1 * b.val = b.val; omega

/-- The window's block, at an element of the argument. -/
theorem blk4_apply (t : Fin cfg0.N) (h : Fin 16) (f : Fin 64) (k : Fin 512) :
    ((iblk m c 4 t : FVec Ideal HQ .fp8e4m3) (ix4 0 h f k) : EReal) = aQ m c (ix4 ⟨t.val, lt_24 t⟩ k h f) := by
  obtain ⟨e0, e1, e2, e3⟩ := idx4 t
  refine Eq.trans ?_ (V5_apply m c ⟨t.val, lt_24 t⟩ h f k)
  show (V m c main_v5 : FVec Ideal S24x16x64x512 .fp8e4m3) (((cfg0.win 4).blk t).view.emb (ix4 (0 : Fin 1) h f k : S1x16x64x512.Idx)) = _
  refine congrArg (V m c main_v5 : FVec Ideal S24x16x64x512 .fp8e4m3) (funext fun a => Fin.ext ?_)
  match a with
  | ⟨0, _⟩ => show win0_4.index t (0 : Fin 4) * 1 + 1 * 0 = t.val; omega
  | ⟨1, _⟩ => show win0_4.index t (1 : Fin 4) * 16 + 1 * h.val = h.val; omega
  | ⟨2, _⟩ => show win0_4.index t (2 : Fin 4) * 64 + 1 * f.val = f.val; omega
  | ⟨3, _⟩ => show win0_4.index t (3 : Fin 4) * 512 + 1 * k.val = k.val; omega

/-- The window's block, at an element of the argument. -/
theorem blk5_apply (t : Fin cfg0.N) (h : Fin 16) (f : Fin 64) (k : Fin 512) :
    ((iblk m c 5 t : FVec Ideal HQ .fp8e4m3) (ix4 0 h f k) : EReal) = aK m c (ix4 ⟨t.val, lt_24 t⟩ k h f) := by
  obtain ⟨e0, e1, e2, e3⟩ := idx5 t
  refine Eq.trans ?_ (V6_apply m c ⟨t.val, lt_24 t⟩ h f k)
  show (V m c main_v6 : FVec Ideal S24x16x64x512 .fp8e4m3) (((cfg0.win 5).blk t).view.emb (ix4 (0 : Fin 1) h f k : S1x16x64x512.Idx)) = _
  refine congrArg (V m c main_v6 : FVec Ideal S24x16x64x512 .fp8e4m3) (funext fun a => Fin.ext ?_)
  match a with
  | ⟨0, _⟩ => show win0_5.index t (0 : Fin 4) * 1 + 1 * 0 = t.val; omega
  | ⟨1, _⟩ => show win0_5.index t (1 : Fin 4) * 16 + 1 * h.val = h.val; omega
  | ⟨2, _⟩ => show win0_5.index t (2 : Fin 4) * 64 + 1 * f.val = f.val; omega
  | ⟨3, _⟩ => show win0_5.index t (3 : Fin 4) * 512 + 1 * k.val = k.val; omega

/-- The window's block, at an element of the argument. -/
theorem blk6_apply (t : Fin cfg0.N) (h : Fin 16) (f : Fin 64) (k : Fin 512) :
    ((iblk m c 6 t : FVec Ideal HQ .fp8e4m3) (ix4 0 h f k) : EReal) = aV m c (ix4 ⟨t.val, lt_24 t⟩ k h f) := by
  obtain ⟨e0, e1, e2, e3⟩ := idx6 t
  refine Eq.trans ?_ (V7_apply m c ⟨t.val, lt_24 t⟩ h f k)
  show (V m c main_v7 : FVec Ideal S24x16x64x512 .fp8e4m3) (((cfg0.win 6).blk t).view.emb (ix4 (0 : Fin 1) h f k : S1x16x64x512.Idx)) = _
  refine congrArg (V m c main_v7 : FVec Ideal S24x16x64x512 .fp8e4m3) (funext fun a => Fin.ext ?_)
  match a with
  | ⟨0, _⟩ => show win0_6.index t (0 : Fin 4) * 1 + 1 * 0 = t.val; omega
  | ⟨1, _⟩ => show win0_6.index t (1 : Fin 4) * 16 + 1 * h.val = h.val; omega
  | ⟨2, _⟩ => show win0_6.index t (2 : Fin 4) * 64 + 1 * f.val = f.val; omega
  | ⟨3, _⟩ => show win0_6.index t (3 : Fin 4) * 512 + 1 * k.val = k.val; omega

/-- An element of a point's block of the result, in the whole result. -/
theorem emb7 (t : Fin cfg0.N) (q : Fin 512) (e : Fin 1024) :
    ((cfg0.win 7).blk t).view.emb (ix3 (0 : Fin 1) q e : S1x512x1024.Idx) = (ix3 ⟨t.val, lt_24 t⟩ q e : S24x512x1024.Idx) := by
  obtain ⟨e0, e1, e2⟩ := idx7 t
  funext a; apply Fin.ext
  match a with
  | ⟨0, _⟩ => show win0_7.index t (0 : Fin 3) * 1 + 1 * 0 = t.val; omega
  | ⟨1, _⟩ => show win0_7.index t (1 : Fin 3) * 512 + 1 * q.val = q.val; omega
  | ⟨2, _⟩ => show win0_7.index t (2 : Fin 3) * 1024 + 1 * e.val = e.val; omega

/-- The bias words are the same at every grid point. -/
theorem first_eq (t : Fin cfg0.N) : (iblk m c 3 first : FVec Ideal HBi .f32) = iblk m c 3 t := by
  funext p
  rw [T5.idx2_eq p]
  exact (blk3_apply m c first _ _).trans (blk3_apply m c t _ _).symm

/-- What a point writes, element by element. -/
theorem outAt_apply (hσ : ∀ b h, 0 ≤ (aqs m c (ix2 b h) : EReal) * aks m c (ix2 b h)) (t : Fin cfg0.N) (q : Fin 512) (e : Fin 1024) :
    (outAt m c t (ix3 0 q e) : EReal) = attnAt (aQ m c) (aK m c) (aV m c) (aqs m c) (aks m c) (avs m c) (aB m c) ⟨t.val, lt_24 t⟩ q e := by
  unfold outAt table
  rw [first_eq m c t]
  refine (T5.blockOut_apply (iblk m c 0 t) (iblk m c 1 t) (iblk m c 2 t) (iblk m c 3 t) (iblk m c 4 t) (iblk m c 5 t) (iblk m c 6 t)
    ⟨t.val, lt_24 t⟩ (fun H => ?_) q e).trans ?_
  · rw [blk0_apply, blk1_apply]; exact hσ _ _
  · unfold attnAt
    have hx : ∀ H : Fin 16, xOf (iblk m c 0 t) (iblk m c 1 t) (iblk m c 3 t) (iblk m c 4 t) (iblk m c 5 t) ⟨t.val, lt_24 t⟩ H q
        = argX (aQ m c) (aK m c) (aqs m c) (aks m c) (aB m c) ⟨t.val, lt_24 t⟩ H q := by
      intro H
      funext k
      have hb := T5.bucket_lt k.val q.val k.isLt q.isLt
      unfold xOf argX T5.bw
      rw [dif_pos hb, T5.word_apply, blk0_apply, blk1_apply, blk3_apply]
      refine congrArg₂ _ (congrArg₂ _ (Finset.sum_congr rfl fun f _ => ?_) rfl) rfl
      rw [blk4_apply, blk5_apply]
    have hv : ∀ (H : Fin 16) (f : Fin 64), (fun k : Fin 512 => ((iblk m c 6 t : FVec Ideal HQ .fp8e4m3) (ix4 0 H f k) : EReal))
        = fun k => (aV m c (ix4 ⟨t.val, lt_24 t⟩ k H f) : EReal) := fun H f => funext fun k => blk6_apply m c t H f k
    rw [hx, hv, blk2_apply]

/-- What a point writes back is its block of the attention. -/
theorem flushed_eq (hσ : ∀ b h, 0 ≤ (aqs m c (ix2 b h) : EReal) * aks m c (ix2 b h)) (t : Fin cfg0.N) :
    (dats m 0 c).flushed 7 t = ((cfg0.win 7).blk t).view.read (Elt Ideal)
      (attn (aQ m c) (aK m c) (aV m c) (aqs m c) (aks m c) (avs m c) (aB m c)) := by
  show (cfg0.win 7).cut (grid0.coords t) ((dats m 0 c).after 7 t) = _
  rw [after0_7]
  funext j
  obtain ⟨q, e, rfl⟩ : ∃ (q : Fin 512) (e : Fin 1024), j = (ix3 (0 : Fin 1) q e : S1x512x1024.Idx) :=
    ⟨j 1, j 2, funext fun a => by
      match a with
      | ⟨0, _⟩ => exact Subsingleton.elim (α := Fin 1) _ _
      | ⟨1, _⟩ => rfl
      | ⟨2, _⟩ => rfl⟩
  show outAt m c t (ix3 0 q e) = attn (aQ m c) (aK m c) (aV m c) (aqs m c) (aks m c) (avs m c) (aB m c) (((cfg0.win 7).blk t).view.emb (ix3 (0 : Fin 1) q e : S1x512x1024.Idx))
  rw [emb7]
  exact outAt_apply m c hσ t q e

/-- A batch's elements lie in its point's block. -/
theorem mem_blk (t : Fin cfg0.N) (q : Fin 512) (e : Fin 1024) :
    (ix3 ⟨t.val, lt_24 t⟩ q e : S24x512x1024.Idx) ∈ ((cfg0.win 7).blk t).view.set := by
  have h := ((cfg0.win 7).blk t).view.emb_mem_set (ix3 (0 : Fin 1) q e : S1x512x1024.Idx)
  rwa [emb7] at h

/-- Every element of the result lies in some point's block. -/
theorem covered (i : S24x512x1024.Idx) : ∃ t : Fin cfg0.N, (cfg0.win 7).flush t = true ∧ i ∈ ((cfg0.win 7).blk t).view.set := by
  obtain ⟨b, q, e, rfl⟩ : ∃ (b : Fin 24) (q : Fin 512) (e : Fin 1024), i = ix3 b q e := ⟨i 0, i 1, i 2, T5.idx3_eq i⟩
  exact ⟨⟨b.val, by rw [show cfg0.N = 24 from N_0]; exact b.isLt⟩, flush0_7 _, mem_blk _ q e⟩

/-- The result array after the run is the attention of the arguments. -/
theorem final (hσ : ∀ b h, 0 ≤ (aqs m c (ix2 b h) : EReal) * aks m c (ix2 b h)) :
    (dats m 0 c).arrAt 7 cfg0.N = attn (aQ m c) (aK m c) (aV m c) (aqs m c) (aks m c) (avs m c) (aB m c) :=
  (dats m 0 c).arrAt_eq_of_cover 7 (attn (aQ m c) (aK m c) (aV m c) (aqs m c) (aks m c) (avs m c) (aB m c))
    (fun t _ => flushed_eq m c hσ t) covered

/-- The kernel's run: its result is the attention of its arguments, which stay as they were. -/
theorem run (hσ : ∀ c b h, 0 ≤ (aqs m c (ix2 b h) : EReal) * aks m c (ix2 b h)) :
    θ_run defs (onTc (τ := τ) (main (F := Ideal))) ⟨m, fun _ => 0, ρ⟩ (fun r => ∀ c : Dev nD,
      r.2.mem ((c.tc : Thread nD τ).loc main_v8) = attn (aQ m c) (aK m c) (aV m c) (aqs m c) (aks m c) (avs m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m c (hσ c)), h.2 c⟩) (θ_run_and (run_main m ρ) (unchanged m ρ))

end Cert.KernelIdeal.Value
end
-- ==== Proof.RefPay.lean ====
module

public import proofs.«01_k».proof.Proof.TileVal
public import proofs.«01_k».proof.Proof.Gen.ReferenceIdeal.Value
public import Idealize.ShloMosaic.Lib.Pointwise
public import Idealize.ShloMosaic.Lib.Claim

@[expose] public section

noncomputable section

/-! What the reference's body computes, element by element, over the extended reals. -/

namespace Cert.ReferenceIdeal.Entry

open Cert.ReferenceIdeal Cert.ReferenceIdeal.Gen Idealize.ShloMosaic Idealize.ShloMosaic.TcCoe Idealize.SL.Sem T5

/-- A comparison with a constant, at an element. -/
theorem ogt_apply {s : Shape} (P : FVec Ideal s .f32) (z : Ideal .f32) (p : s.Idx) :
    cmpf .ogt P (broadcast s z) p = BitVec.ofBool (decide ((z : EReal) < P p)) := by
  pointwise

section

variable (v0 v2 v4 : Vec Ideal S24x512x16x64 .fp8e4m3) (v6 v7 v59 : Vec Ideal S24x16 .f32) (v14 : Vec Ideal S512x512x16 .f32)

/-- The scaled and biased scores of a query of a head. -/
def sc (b : Fin 24) (q : Fin 512) (h : Fin 16) (k : Fin 512) : EReal :=
  (∑ c : Fin 64, (v2 (ix4 b k h c) : EReal) * v0 (ix4 b q h c)) * ((v6 (ix2 b h) : EReal) * v7 (ix2 b h)) + v14 (ix3 q k h)

/-- The probabilities, at an element. -/
theorem pay3_apply (b : Fin 24) (q : Fin 512) (k : Fin 512) (h : Fin 16) :
    (k0_pay3 (F := Ideal) v0 v2 v6 v7 v14 (ix4 b q k h) : EReal) = wt (sc v0 v2 v6 v7 v14 b q h) k * rcp (sc v0 v2 v6 v7 v14 b q h) := by
  unfold k0_pay3
  pointwise [bot_bits, Ideal.ofBits_one_f32]
  rfl

/-- The largest probability of a query. -/
theorem pay4_apply (b : Fin 24) (q : Fin 512) (h : Fin 16) :
    (k0_pay4 (F := Ideal) v0 v2 v6 v7 v14 (ix3 b q h) : EReal)
      = mx fun k => wt (sc v0 v2 v6 v7 v14 b q h) k * rcp (sc v0 v2 v6 v7 v14 b q h) := by
  unfold k0_pay4
  pointwise [bot_bits, pay3_apply]
  rfl

/-- Whether the largest probability is positive. -/
theorem pay5_apply (b : Fin 24) (q : Fin 512) (h : Fin 16) :
    k0_pay5 (F := Ideal) v0 v2 v6 v7 v14 (ix3 b q h) = BitVec.ofBool (decide (0 < (k0_pay4 (F := Ideal) v0 v2 v6 v7 v14 (ix3 b q h) : EReal))) := by
  refine (ogt_apply (k0_pay4 (F := Ideal) v0 v2 v6 v7 v14) (Scalar.ofBits .f32 0x00000000#32) (ix3 b q h)).trans ?_
  generalize k0_pay4 (F := Ideal) v0 v2 v6 v7 v14 (ix3 b q h) = y
  rw [show (Scalar.ofBits .f32 0x00000000#32 : Ideal .f32) = (0 : EReal) from Ideal.ofBits_zero_f32]

/-- A select on a decided proposition. -/
theorem select_decide (p : Prop) [Decidable p] (x y : EReal) : Scalar.select (BitVec.ofBool (decide p)) x y = if p then x else y := by
  by_cases hp : p
  · rw [if_pos hp, decide_eq_true hp]; rfl
  · rw [if_neg hp, decide_eq_false hp]; rfl

/-- The exponent of a query of a head. -/
theorem exp_apply (b : Fin 24) (q : Fin 512) (h : Fin 16) :
    refExp (mx fun k => wt (sc v0 v2 v6 v7 v14 b q h) k * rcp (sc v0 v2 v6 v7 v14 b q h))
      = Scalar.select (k0_pay5 (F := Ideal) v0 v2 v6 v7 v14 (ix3 b q h))
        (Ideal.liftRound Int.floor (Ideal.div (Ideal.log ((k0_pay4 (F := Ideal) v0 v2 v6 v7 v14 (ix3 b q h) : EReal) * k0_pay6 (F := Ideal) (ix3 b q h)))
          ((Real.log 2 : ℝ) : EReal)) + 1) 0 := by
  have e6 : (k0_pay6 (F := Ideal) (ix3 b q h) : EReal) = C448 := rfl
  rw [pay5_apply, pay4_apply, e6]
  generalize (mx fun k => wt (sc v0 v2 v6 v7 v14 b q h) k * rcp (sc v0 v2 v6 v7 v14 b q h)) = a
  rw [select_decide]
  rfl

end

/-- The named constant is `log 2`. -/
theorem ln2_eq : (Named.named κ "ln_2" 1060205080#32 : Ideal .f32) = ((Real.log 2 : ℝ) : EReal) := rfl

/-- The result, at an element, from the probabilities and the exponent. -/
theorem pay1_apply (v5 : FVec Ideal S24x512x16x64 .f32) (v29 : FVec Ideal S24x512x512x16 .f32) (v30 : FVec Ideal S24x512x16 .f32)
    (v32 : IVec S24x512x16 1) (v33 : FVec Ideal S24x512x16 .f32) (v59 : Vec Ideal S24x16 .f32) (b : Fin 24) (q : Fin 512) (e : Fin 1024)
    (h : Fin 16) (c : Fin 64) (eh : h = ⟨e.val / 64, by omega⟩) (ec : c = ⟨e.val % 64, Nat.mod_lt _ (by decide)⟩) (E : EReal)
    (hE : E = Scalar.select (v32 (ix3 b q h))
      (Ideal.liftRound Int.floor (Ideal.div (Ideal.log ((v30 (ix3 b q h) : EReal) * v33 (ix3 b q h))) ((Real.log 2 : ℝ) : EReal)) + 1) 0) :
    (k0_pay1 (F := Ideal) v5 v29 v30 v32 v33 v59 (ix3 b q e) : EReal)
      = (∑ k : Fin 512, (v5 (ix4 b k h c) : EReal) * clip ((v29 (ix4 b q k h) : EReal) * Ideal.exp2 (0 - E)))
          * (Ideal.exp2 E * v59 (ix2 b h)) := by
  subst hE eh ec
  unfold k0_pay1
  pointwise [Ideal.ofBits_one_f32]
  rw [ln2_eq]
  rfl

end Cert.ReferenceIdeal.Entry
end
-- ==== Proof.RefBias.lean ====
module

public import proofs.«01_k».proof.Proof.Bias
public import proofs.«01_k».proof.Proof.Gen.ReferenceIdeal.Value
public import Idealize.ShloMosaic.Lib.Pointwise
public import Idealize.ShloMosaic.Lib.Claim

@[expose] public section

noncomputable section

/-! The reference's bias, element by element. -/

namespace Cert.ReferenceIdeal.Entry

open Cert.ReferenceIdeal Cert.ReferenceIdeal.Gen Idealize.ShloMosaic Idealize.ShloMosaic.TcCoe Idealize.SL.Sem T5

/-- Row `q`, column `k`, lane `h` of the gathered bias is the table's row at the word for `(q, k)`, cut to the table. -/
theorem gather_apply (x : Vec Ideal S32x16 .bf16) (idx : IVec S512x512x1 32) (q k : Fin 512) (h : Fin 16) :
    Host.gather gather_S32x16_S512x512x1_S512x512x16_2_0_n_n_0_2_116 x idx (ix3 q k h)
      = x (ix2 ⟨min (idx (ix3 q k 0)).toInt.toNat 31, by omega⟩ h) := by
  unfold Host.gather
  refine congrArg x (funext fun a => Fin.ext ?_)
  match a with
  | ⟨0, _⟩ =>
    show GatherDims.start _ _ idx 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    refine congrArg (fun p => min (idx p).toInt.toNat 31) (funext fun y => Fin.ext ?_)
    fin_cases y <;> rfl
  | ⟨1, _⟩ =>
    show GatherDims.start _ _ idx 1 + GatherDims.batchCoord _ _ 1 + GatherDims.offCoord _ _ 1 = h.val
    rw [GatherDims.batchCoord_eq_zero _ _ _ (by decide)]
    unfold GatherDims.start GatherDims.offCoord
    rw [dif_neg (by decide), dif_pos (by decide)]
    simp only [Nat.zero_add]
    rfl

/-- The reference's word for a distance. -/
def rw1 (D a : BitVec 32) : BitVec 32 :=
  IntOp.addi (Scalar.select (IntOp.cmpi .sgt D 0#32) 16#32 0#32)
    (Scalar.select (IntOp.cmpi .slt a 8#32) a
      (IntOp.addi (IntOp.addi (IntOp.addi (IntOp.addi (IntOp.addi (IntOp.addi (IntOp.addi 8#32
        ((IntOp.cmpi .sge a 12#32).setWidth 32)) ((IntOp.cmpi .sge a 16#32).setWidth 32)) ((IntOp.cmpi .sge a 23#32).setWidth 32))
        ((IntOp.cmpi .sge a 32#32).setWidth 32)) ((IntOp.cmpi .sge a 46#32).setWidth 32)) ((IntOp.cmpi .sge a 64#32).setWidth 32))
        ((IntOp.cmpi .sge a 91#32).setWidth 32)))

/-- The same counted from the end of the table where it is negative. -/
def rw2 (w : BitVec 32) : BitVec 32 := Scalar.select (IntOp.cmpi .slt w 0#32) (IntOp.addi w 32#32) w

/-- The table's row for the distance `d - 511`. -/
def rwAt (d : Nat) : Nat :=
  min (rw2 (rw1 (BitVec.ofNat 32 (d + 4294966785)) (IntOp.absi (BitVec.ofNat 32 (d + 4294966785))))).toInt.toNat 31

/-- The reference's row is the bucket, at every distance. -/
theorem rw_table : ∀ d : Fin 1023, rwAt d.val = bucketAt d.val := by decide +kernel

/-- The reference's row for a key and a query is their bucket. -/
theorem rw_bucket (k q : Nat) (hk : k < 512) (hq : q < 512) :
    min (rw2 (rw1 (dw k q) (IntOp.absi (dw k q)))).toInt.toNat 31 = bucket (dw k q) := by
  rw [bucket_dw k q hk hq, ← rw_table ⟨k + 511 - q, by omega⟩]
  unfold rwAt
  rw [← dw_cases k q hk hq]

variable (m : (ℓ : Loc nD τ sig) → Buf (Elt Ideal) ℓ)

/-! ## The words, as arrays -/

/-- Key position minus query position. -/
def dV : IVec S512x512 32 :=
  subi (broadcastInDim S512x512 ![0, 1] bcast_S1x512_S512x512_0_1 (broadcastInDim S1x512 ![1] bcast_S512_S1x512_1 (iotaInDim S512 32 0)))
    (broadcastInDim S512x512 ![0, 1] bcast_S512x1_S512x512_0_1 (broadcastInDim S512x1 ![0] bcast_S512_S512x1_0 (iotaInDim S512 32 0)))

/-- A constant array. -/
def cV (n : BitVec 32) : IVec S512x512 32 := broadcastInDim S512x512 ![] bcast_S_S512x512 (constantI S_ 32 n)

/-- One where the element is at least `n`, zero elsewhere. -/
def geV (a : IVec S512x512 32) (n : BitVec 32) : IVec S512x512 32 := extui 32 (cmpi .sge a (cV n)) natLt_1_32

/-- The words of the distances `D` with absolute values `a`. -/
def relV (D a : IVec S512x512 32) : IVec S512x512 32 :=
  addi (select (cmpi .sgt D (cV 0#32)) (cV 16#32) (cV 0#32))
    (select (cmpi .slt a (cV 8#32)) a
      (addi (addi (addi (addi (addi (addi (addi (cV 8#32) (geV a 12#32)) (geV a 16#32)) (geV a 23#32)) (geV a 32#32)) (geV a 46#32)) (geV a 64#32))
        (geV a 91#32)))

/-- The words, counted from the end of the table where negative. -/
def endV (w : IVec S512x512 32) : IVec S512x512 32 := select (cmpi .slt w (cV 0#32)) (addi w (cV 32#32)) w

/-- The words the reference gathers at. -/
def wordV : IVec S512x512x1 32 := broadcastInDim S512x512x1 ![0, 1] bcast_S512x512_S512x512x1_0_1 (endV (relV dV (absi dV)))

/-- The differences, at an element. -/
theorem dV_apply (q k : Fin 512) : dV (ix2 q k) = dw k.val q.val := by
  unfold dV
  pointwise
  rfl

/-- The words, at an element. -/
theorem relV_apply (D a : IVec S512x512 32) (p : S512x512.Idx) : relV D a p = rw1 (D p) (a p) := rfl

/-- The words counted from the end, at an element. -/
theorem endV_apply (w : IVec S512x512 32) (p : S512x512.Idx) : endV w p = rw2 (w p) := rfl

/-- The gathered words, at an element. -/
theorem wordV_apply (q k : Fin 512) : wordV (ix3 q k 0) = rw2 (rw1 (dw k.val q.val) (IntOp.absi (dw k.val q.val))) := by
  unfold wordV
  generalize hw : endV (relV dV (absi dV)) = w
  pointwise
  rw [← hw, endV_apply, relV_apply, show absi dV (ix2 q k) = IntOp.absi (dV (ix2 q k)) from rfl, dV_apply]

/-- The bias words. -/
abbrev aB (c : Dev nD) : FVec Ideal S32x16 .bf16 := m ((c.tc : Thread nD τ).loc main_arg6)

set_option maxHeartbeats 1600000 in
/-- The bias array the region reads: the table gathered at the words. -/
theorem V51 (c : Dev nD) : (V m c main_v51 : FVec Ideal S512x512x16 .f32)
    = (extf (F := Ideal) .f32 (Host.gather gather_S32x16_S512x512x1_S512x512x16_2_0_n_n_0_2_116 (aB m c) wordV : FVec Ideal S512x512x16 .bf16)
        bitsLt_bf16_f32 : FVec Ideal S512x512x16 .f32) := by
  unfold V
  simp only [hostOps0, hostOps0_1, hostOps0_2, hostOps0_3, hostOps0_4, List.flatten_cons, List.flatten_nil, List.append_nil, List.cons_append,
    List.nil_append]
  entry_read
  rfl

/-- The bias of a query and a key in a head is the table's row of their distance's bucket. -/
theorem bias_entry (c : Dev nD) (q k : Fin 512) (h : Fin 16) :
    ((V m c main_v51 : FVec Ideal S512x512x16 .f32) (ix3 q k h) : EReal)
      = aB m c (ix2 ⟨bucket (dw k.val q.val), bucket_lt _ _ k.isLt q.isLt⟩ h) := by
  rw [V51]
  refine (gather_apply (aB m c) wordV q k h).trans ?_
  refine congrArg (aB m c) (congrArg (fun n => ix2 n h) (Fin.ext ?_))
  show min (wordV (ix3 q k 0)).toInt.toNat 31 = _
  rw [wordV_apply]
  exact rw_bucket _ _ k.isLt q.isLt

end Cert.ReferenceIdeal.Entry
end
-- ==== Proof.RefVal.lean ====
module

public import proofs.«01_k».proof.Proof.RefPay
public import proofs.«01_k».proof.Proof.RefBias
public import proofs.«01_k».proof.Proof.Spec

@[expose] public section

noncomputable section

/-! The reference's result over the extended reals: the attention of its arguments. -/

namespace Cert.ReferenceIdeal.Entry

open Cert.ReferenceIdeal Cert.ReferenceIdeal.Gen Idealize.ShloMosaic Idealize.ShloMosaic.TcCoe Idealize.SL.Sem T5
open Idealize.ShloMosaic.Pipeline (Dat)

variable (m : (ℓ : Loc nD τ sig) → Buf (Elt Ideal) ℓ) (ρ : Dev nD → PrngReg) (c : Dev nD)

/-- The queries. -/
abbrev a0 : FVec Ideal S24x512x16x64 .fp8e4m3 := m ((c.tc : Thread nD τ).loc main_arg0)
/-- The keys. -/
abbrev a1 : FVec Ideal S24x512x16x64 .fp8e4m3 := m ((c.tc : Thread nD τ).loc main_arg1)
/-- The values. -/
abbrev a2 : FVec Ideal S24x512x16x64 .fp8e4m3 := m ((c.tc : Thread nD τ).loc main_arg2)
/-- The queries' scales. -/
abbrev a3 : FVec Ideal S24x16 .f32 := m ((c.tc : Thread nD τ).loc main_arg3)
/-- The keys' scales. -/
abbrev a4 : FVec Ideal S24x16 .f32 := m ((c.tc : Thread nD τ).loc main_arg4)
/-- The values' scales. -/
abbrev a5 : FVec Ideal S24x16 .f32 := m ((c.tc : Thread nD τ).loc main_arg5)

/-! ## The body's result -/

section

variable (x0 x1 x2 : FVec Ideal S24x512x16x64 .fp8e4m3) (x3 x4 x5 : FVec Ideal S24x16 .f32) (x6 : FVec Ideal S512x512x16 .f32)

/-- Four zero offsets. -/
theorem hz4 : (![0, 0, 0, 0] : Fin 4 → Nat) = fun _ => 0 := by funext a; fin_cases a <;> rfl
/-- Three zero offsets. -/
theorem hz3 : (![0, 0, 0] : Fin 3 → Nat) = fun _ => 0 := by funext a; fin_cases a <;> rfl
/-- Two zero offsets. -/
theorem hz2 : (![0, 0] : Fin 2 → Nat) = fun _ => 0 := by funext a; fin_cases a <;> rfl

/-- A load of a whole array of rank four. -/
theorem ld4 (x : Vec Ideal S24x512x16x64 .fp8e4m3) : View.ld x r0_0 = x := View.ld_unit_zero hz4 _ x
/-- A load of a whole matrix. -/
theorem ld2 (x : Vec Ideal S24x16 .f32) : View.ld x r0_1 = x := View.ld_unit_zero hz2 _ x
/-- A load of a whole array of rank three. -/
theorem ld3 (x : Vec Ideal S512x512x16 .f32) : View.ld x r0_2 = x := View.ld_unit_zero hz3 _ x

/-- The body's result, from whole arrays. -/
theorem out_eq : out0_7 (F := Ideal) x0 x1 x2 x3 x4 x5 x6
    = k0_pay1 (F := Ideal) (k0_pay2 (F := Ideal) x2) (k0_pay3 (F := Ideal) x0 x1 x3 x4 x6) (k0_pay4 (F := Ideal) x0 x1 x3 x4 x6)
        (k0_pay5 (F := Ideal) x0 x1 x3 x4 x6) (k0_pay6 (F := Ideal)) x5 := by
  unfold out0_7
  rw [ld4, ld4, ld4, ld2, ld2, ld2, ld3]
  exact View.canon_unit_zero hz3 _ _

/-- The body's result, at an element. -/
theorem out_apply (b : Fin 24) (q : Fin 512) (e : Fin 1024) :
    (out0_7 (F := Ideal) x0 x1 x2 x3 x4 x5 x6 (ix3 b q e) : EReal)
      = refOut (sc x0 x1 x3 x4 x6 b q ⟨e.val / 64, by omega⟩) (fun k => x2 (ix4 b k ⟨e.val / 64, by omega⟩ ⟨e.val % 64, Nat.mod_lt _ (by decide)⟩))
          (x5 (ix2 b ⟨e.val / 64, by omega⟩)) := by
  rw [out_eq]
  refine (pay1_apply _ _ _ _ _ x5 b q e _ _ rfl rfl _ (exp_apply x0 x1 x3 x4 x6 b q _)).trans ?_
  unfold refOut
  refine congrArg₂ _ (Finset.sum_congr rfl fun k _ => ?_) rfl
  rw [pay3_apply]
  rfl

end

/-! ## The blocks: the whole arrays -/

/-- The window's block starts at zero. -/
theorem idx0 : ∀ (t : Fin cfg0.N) (a : Fin 4), win0_0.index t a = 0 := (by decide +kernel : ∀ (t : Fin grid0.N) (a : Fin 4), win0_0.index t a = 0)

/-- The window's block is the whole array. -/
theorem emb0 (t : Fin cfg0.N) (j : S24x512x16x64.Idx) : ((cfg0.win 0).blk t).view.emb j = j := by
  funext a; apply Fin.ext
  match a with
  | ⟨0, _⟩ => show win0_0.index t (0 : Fin 4) * 24 + 1 * (j 0).val = (j 0).val; rw [idx0 t 0]; omega
  | ⟨1, _⟩ => show win0_0.index t (1 : Fin 4) * 512 + 1 * (j 1).val = (j 1).val; rw [idx0 t 1]; omega
  | ⟨2, _⟩ => show win0_0.index t (2 : Fin 4) * 16 + 1 * (j 2).val = (j 2).val; rw [idx0 t 2]; omega
  | ⟨3, _⟩ => show win0_0.index t (3 : Fin 4) * 64 + 1 * (j 3).val = (j 3).val; rw [idx0 t 3]; omega

/-- The window's block is the argument. -/
theorem blk0 (t : Fin cfg0.N) : (iblk m c 0 t : FVec Ideal S24x512x16x64 .fp8e4m3) = a0 m c := by
  refine Eq.trans ?_ (V_main_arg0 m c)
  funext j
  show (V m c main_arg0 : FVec Ideal S24x512x16x64 .fp8e4m3) (((cfg0.win 0).blk t).view.emb j) = V m c main_arg0 j
  rw [emb0]

/-- The window's block starts at zero. -/
theorem idx1 : ∀ (t : Fin cfg0.N) (a : Fin 4), win0_1.index t a = 0 := (by decide +kernel : ∀ (t : Fin grid0.N) (a : Fin 4), win0_1.index t a = 0)

/-- The window's block is the whole array. -/
theorem emb1 (t : Fin cfg0.N) (j : S24x512x16x64.Idx) : ((cfg0.win 1).blk t).view.emb j = j := by
  funext a; apply Fin.ext
  match a with
  | ⟨0, _⟩ => show win0_1.index t (0 : Fin 4) * 24 + 1 * (j 0).val = (j 0).val; rw [idx1 t 0]; omega
  | ⟨1, _⟩ => show win0_1.index t (1 : Fin 4) * 512 + 1 * (j 1).val = (j 1).val; rw [idx1 t 1]; omega
  | ⟨2, _⟩ => show win0_1.index t (2 : Fin 4) * 16 + 1 * (j 2).val = (j 2).val; rw [idx1 t 2]; omega
  | ⟨3, _⟩ => show win0_1.index t (3 : Fin 4) * 64 + 1 * (j 3).val = (j 3).val; rw [idx1 t 3]; omega

/-- The window's block is the argument. -/
theorem blk1 (t : Fin cfg0.N) : (iblk m c 1 t : FVec Ideal S24x512x16x64 .fp8e4m3) = a1 m c := by
  refine Eq.trans ?_ (V_main_arg1 m c)
  funext j
  show (V m c main_arg1 : FVec Ideal S24x512x16x64 .fp8e4m3) (((cfg0.win 1).blk t).view.emb j) = V m c main_arg1 j
  rw [emb1]

/-- The window's block starts at zero. -/
theorem idx2 : ∀ (t : Fin cfg0.N) (a : Fin 4), win0_2.index t a = 0 := (by decide +kernel : ∀ (t : Fin grid0.N) (a : Fin 4), win0_2.index t a = 0)

/-- The window's block is the whole array. -/
theorem emb2 (t : Fin cfg0.N) (j : S24x512x16x64.Idx) : ((cfg0.win 2).blk t).view.emb j = j := by
  funext a; apply Fin.ext
  match a with
  | ⟨0, _⟩ => show win0_2.index t (0 : Fin 4) * 24 + 1 * (j 0).val = (j 0).val; rw [idx2 t 0]; omega
  | ⟨1, _⟩ => show win0_2.index t (1 : Fin 4) * 512 + 1 * (j 1).val = (j 1).val; rw [idx2 t 1]; omega
  | ⟨2, _⟩ => show win0_2.index t (2 : Fin 4) * 16 + 1 * (j 2).val = (j 2).val; rw [idx2 t 2]; omega
  | ⟨3, _⟩ => show win0_2.index t (3 : Fin 4) * 64 + 1 * (j 3).val = (j 3).val; rw [idx2 t 3]; omega

/-- The window's block is the argument. -/
theorem blk2 (t : Fin cfg0.N) : (iblk m c 2 t : FVec Ideal S24x512x16x64 .fp8e4m3) = a2 m c := by
  refine Eq.trans ?_ (V_main_arg2 m c)
  funext j
  show (V m c main_arg2 : FVec Ideal S24x512x16x64 .fp8e4m3) (((cfg0.win 2).blk t).view.emb j) = V m c main_arg2 j
  rw [emb2]

/-- The window's block starts at zero. -/
theorem idx3 : ∀ (t : Fin cfg0.N) (a : Fin 2), win0_3.index t a = 0 := (by decide +kernel : ∀ (t : Fin grid0.N) (a : Fin 2), win0_3.index t a = 0)

/-- The window's block is the whole array. -/
theorem emb3 (t : Fin cfg0.N) (j : S24x16.Idx) : ((cfg0.win 3).blk t).view.emb j = j := by
  funext a; apply Fin.ext
  match a with
  | ⟨0, _⟩ => show win0_3.index t (0 : Fin 2) * 24 + 1 * (j 0).val = (j 0).val; rw [idx3 t 0]; omega
  | ⟨1, _⟩ => show win0_3.index t (1 : Fin 2) * 16 + 1 * (j 1).val = (j 1).val; rw [idx3 t 1]; omega

/-- The window's block is the argument. -/
theorem blk3 (t : Fin cfg0.N) : (iblk m c 3 t : FVec Ideal S24x16 .f32) = a3 m c := by
  refine Eq.trans ?_ (V_main_arg3 m c)
  funext j
  show (V m c main_arg3 : FVec Ideal S24x16 .f32) (((cfg0.win 3).blk t).view.emb j) = V m c main_arg3 j
  rw [emb3]

/-- The window's block starts at zero. -/
theorem idx4 : ∀ (t : Fin cfg0.N) (a : Fin 2), win0_4.index t a = 0 := (by decide +kernel : ∀ (t : Fin grid0.N) (a : Fin 2), win0_4.index t a = 0)

/-- The window's block is the whole array. -/
theorem emb4 (t : Fin cfg0.N) (j : S24x16.Idx) : ((cfg0.win 4).blk t).view.emb j = j := by
  funext a; apply Fin.ext
  match a with
  | ⟨0, _⟩ => show win0_4.index t (0 : Fin 2) * 24 + 1 * (j 0).val = (j 0).val; rw [idx4 t 0]; omega
  | ⟨1, _⟩ => show win0_4.index t (1 : Fin 2) * 16 + 1 * (j 1).val = (j 1).val; rw [idx4 t 1]; omega

/-- The window's block is the argument. -/
theorem blk4 (t : Fin cfg0.N) : (iblk m c 4 t : FVec Ideal S24x16 .f32) = a4 m c := by
  refine Eq.trans ?_ (V_main_arg4 m c)
  funext j
  show (V m c main_arg4 : FVec Ideal S24x16 .f32) (((cfg0.win 4).blk t).view.emb j) = V m c main_arg4 j
  rw [emb4]

/-- The window's block starts at zero. -/
theorem idx5 : ∀ (t : Fin cfg0.N) (a : Fin 2), win0_5.index t a = 0 := (by decide +kernel : ∀ (t : Fin grid0.N) (a : Fin 2), win0_5.index t a = 0)

/-- The window's block is the whole array. -/
theorem emb5 (t : Fin cfg0.N) (j : S24x16.Idx) : ((cfg0.win 5).blk t).view.emb j = j := by
  funext a; apply Fin.ext
  match a with
  | ⟨0, _⟩ => show win0_5.index t (0 : Fin 2) * 24 + 1 * (j 0).val = (j 0).val; rw [idx5 t 0]; omega
  | ⟨1, _⟩ => show win0_5.index t (1 : Fin 2) * 16 + 1 * (j 1).val = (j 1).val; rw [idx5 t 1]; omega

/-- The window's block is the argument. -/
theorem blk5 (t : Fin cfg0.N) : (iblk m c 5 t : FVec Ideal S24x16 .f32) = a5 m c := by
  refine Eq.trans ?_ (V_main_arg5 m c)
  funext j
  show (V m c main_arg5 : FVec Ideal S24x16 .f32) (((cfg0.win 5).blk t).view.emb j) = V m c main_arg5 j
  rw [emb5]

/-- The window's block starts at zero. -/
theorem idx6 : ∀ (t : Fin cfg0.N) (a : Fin 3), win0_6.index t a = 0 := (by decide +kernel : ∀ (t : Fin grid0.N) (a : Fin 3), win0_6.index t a = 0)

/-- The window's block is the whole array. -/
theorem emb6 (t : Fin cfg0.N) (j : S512x512x16.Idx) : ((cfg0.win 6).blk t).view.emb j = j := by
  funext a; apply Fin.ext
  match a with
  | ⟨0, _⟩ => show win0_6.index t (0 : Fin 3) * 512 + 1 * (j 0).val = (j 0).val; rw [idx6 t 0]; omega
  | ⟨1, _⟩ => show win0_6.index t (1 : Fin 3) * 512 + 1 * (j 1).val = (j 1).val; rw [idx6 t 1]; omega
  | ⟨2, _⟩ => show win0_6.index t (2 : Fin 3) * 16 + 1 * (j 2).val = (j 2).val; rw [idx6 t 2]; omega

/-- The bias block, at an element. -/
theorem blk6 (t : Fin cfg0.N) (q k : Fin 512) (h : Fin 16) : ((iblk m c 6 t : FVec Ideal S512x512x16 .f32) (ix3 q k h) : EReal)
    = aB m c (ix2 ⟨bucket (dw k.val q.val), bucket_lt _ _ k.isLt q.isLt⟩ h) := by
  refine Eq.trans ?_ (bias_entry m c q k h)
  show (V m c main_v51 : FVec Ideal S512x512x16 .f32) (((cfg0.win 6).blk t).view.emb (ix3 q k h : S512x512x16.Idx)) = (V m c main_v51 : FVec Ideal S512x512x16 .f32) (ix3 q k h)
  rw [emb6]

/-- The window's block starts at zero. -/
theorem idx7 : ∀ (t : Fin cfg0.N) (a : Fin 3), win0_7.index t a = 0 := (by decide +kernel : ∀ (t : Fin grid0.N) (a : Fin 3), win0_7.index t a = 0)

/-- The window's block is the whole array. -/
theorem emb7 (t : Fin cfg0.N) (j : S24x512x1024.Idx) : ((cfg0.win 7).blk t).view.emb j = j := by
  funext a; apply Fin.ext
  match a with
  | ⟨0, _⟩ => show win0_7.index t (0 : Fin 3) * 24 + 1 * (j 0).val = (j 0).val; rw [idx7 t 0]; omega
  | ⟨1, _⟩ => show win0_7.index t (1 : Fin 3) * 512 + 1 * (j 1).val = (j 1).val; rw [idx7 t 1]; omega
  | ⟨2, _⟩ => show win0_7.index t (2 : Fin 3) * 1024 + 1 * (j 2).val = (j 2).val; rw [idx7 t 2]; omega

/-- What the one point writes back is the attention. -/
theorem flushed_eq (t : Fin cfg0.N) : (dats m 0 c).flushed 7 t
    = ((cfg0.win 7).blk t).view.read (Elt Ideal) (attn (a0 m c) (a1 m c) (a2 m c) (a3 m c) (a4 m c) (a5 m c) (aB m c)) := by
  rw [Value.flushed7]
  funext j
  obtain ⟨b, q, e, rfl⟩ : ∃ (b : Fin 24) (q : Fin 512) (e : Fin 1024), j = (ix3 b q e : S24x512x1024.Idx) := ⟨j 0, j 1, j 2, idx3_eq j⟩
  show out0_7 (iblk m c 0 t) (iblk m c 1 t) (iblk m c 2 t) (iblk m c 3 t) (iblk m c 4 t) (iblk m c 5 t) (iblk m c 6 t) (ix3 b q e)
    = attn (a0 m c) (a1 m c) (a2 m c) (a3 m c) (a4 m c) (a5 m c) (aB m c) (((cfg0.win 7).blk t).view.emb (ix3 b q e : S24x512x1024.Idx))
  rw [emb7]
  refine (out_apply _ _ _ _ _ _ _ b q e).trans ?_
  rw [blk0, blk1, blk2, blk3, blk4, blk5, refOut_eq_kerOut]
  show _ = attnAt (a0 m c) (a1 m c) (a2 m c) (a3 m c) (a4 m c) (a5 m c) (aB m c) b q e
  unfold attnAt
  have hx : ∀ H : Fin 16, sc (a0 m c) (a1 m c) (a3 m c) (a4 m c) (iblk m c 6 t) b q H = argX (a0 m c) (a1 m c) (a3 m c) (a4 m c) (aB m c) b H q := by
    intro H
    funext k
    unfold sc argX
    rw [blk6]
  rw [hx]

/-- Every element of the result lies in the block. -/
theorem covered (i : S24x512x1024.Idx) : ∃ t : Fin cfg0.N, (cfg0.win 7).flush t = true ∧ i ∈ ((cfg0.win 7).blk t).view.set :=
  ⟨t0_0, flush0_7 _, by have h := ((cfg0.win 7).blk t0_0).view.emb_mem_set i; rwa [emb7] at h⟩

/-- The result array after the run is the attention of the arguments. -/
theorem final : (dats m 0 c).arrAt 7 cfg0.N = attn (a0 m c) (a1 m c) (a2 m c) (a3 m c) (a4 m c) (a5 m c) (aB m c) :=
  (dats m 0 c).arrAt_eq_of_cover 7 (attn (a0 m c) (a1 m c) (a2 m c) (a3 m c) (a4 m c) (a5 m c) (aB m c)) (fun t _ => flushed_eq m c t) covered

/-- The reference's run: its result is the attention of its arguments, which stay as they were. -/
theorem run : θ_run defs (onTc (τ := τ) (main (F := Ideal))) ⟨m, fun _ => 0, ρ⟩ (fun r => ∀ c : Dev nD,
      r.2.mem ((c.tc : Thread nD τ).loc main_v52) = attn (a0 m c) (a1 m c) (a2 m c) (a3 m c) (a4 m c) (a5 m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final m c), (h c).2⟩) (Value.run_blocks m ρ)

end Cert.ReferenceIdeal.Entry
end
-- ==== Proof.Pre.lean ====
module

public import proofs.«01_k».proof.Defs
public import proofs.«01_k».proof.Proof.Gen.Pre_scales_nonnegative
public import Idealize.ShloMosaic.Lib.Pointwise
public import Idealize.ShloMosaic.Lib.ReduceAll

@[expose] public section

noncomputable section

/-! The precondition, read at an element. -/

namespace Cert

open Idealize.ShloMosaic Idealize.SL.Sem

instance : Subsingleton Cert.Pre_scales_nonnegative.S_.Idx := ⟨fun _ _ => funext fun a => a.elim0⟩

/-- Where the precondition holds, every product of a query scale and a key scale is at least zero. -/
theorem scales_nonneg [Cert.Pre_scales_nonnegative.Facts] (x0 x1 x2 : FVec Ideal Cert.Pre_scales_nonnegative.S24x512x16x64 .fp8e4m3)
    (x3 x4 x5 : FVec Ideal Cert.Pre_scales_nonnegative.S24x16 .f32) (x6 : FVec Ideal Cert.Pre_scales_nonnegative.S32x16 .bf16)
    (h : Cert.Pre_scales_nonnegative.fn (F := Ideal) x0 x1 x2 x3 x4 x5 x6 (fun a => a.elim0) = 1#1) (b : Fin 24) (hd : Fin 16) :
    0 ≤ (x3 (ix2 b hd) : EReal) * x4 (ix2 b hd) := by
  have h1 := Host.reduce_andi_all _ _ _ _ _ h (ix2 b hd)
  revert h1
  pointwise
  generalize (x3 (ix2 b hd) : EReal) * x4 (ix2 b hd) = y
  intro h1
  by_contra hn
  simp [hn] at h1

end Cert
end
-- ==== Proof.SameK.lean ====
module

public import proofs.«01_k».proof.Proof.Struct
public import proofs.«01_k».proof.Proof.Gen.Kernel

@[expose] public section

set_option maxRecDepth 100000
set_option maxHeartbeats 0

namespace Cert.Kernel

open Idealize.ShloMosaic Idealize.SL.Sem
open Facts₀ Facts

variable {F : FTy → Type} [FloatOps F]
variable [Facts]

/-- One trip of the printed body's loop over pairs of heads. -/
noncomputable def trip (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_t2 : Fin k0_t2_loop.trips) : Prog (TpuEff nD τ sig (Elt F) Λ₀ .tc) PUnit := do
    let arg0 : BitVec 32 := BitVec.ofNat 32 (i 0).val
    let c0_i32_1 : BitVec 32 := 0#32
    let c1_i32 : BitVec 32 := 1#32
    let ⟨v5, v6, v14, v17, v20, v23, v27, v30, v1413, v1415, v1988, v1992, v2196, v2201⟩ : Σ' (v5 : BitVec 32) (v6 : BitVec 32) (v14 : F .f32) (v17 : Elt F .f32) (v20 : F .f32) (v23 : F .f32) (v27 : FVec F S512x64 .fp8e4m3) (v30 : FVec F S64x512 .fp8e4m3) (v1413 : FVec F S512x128 .fp8e4m3) (v1415 : FVec F S1x128 .f32) (v1988 : FVec F S1x128 .f32) (v1992 : FVec F S1x128 .f32) (v2196 : FVec F S8x128 .f32), FVec F S8x128 .f32 ← k0_part315 i arg1 harg1 arg2 harg2 arg3 harg3 arg4 harg4 arg5 harg5 arg6 harg6 arg7 harg7 arg8 harg8 arg9 harg9 arg10 harg10 arg11 harg11 arg0 c0_i32_1 c1_i32 k0_t2
    let ⟨v2857, v2861, v4296, v4298, v4392, v4393⟩ : Σ' (v2857 : FVec F S64x256 .f32) (v2861 : FVec F S512x256 .f32) (v4296 : FVec F S512x128 .fp8e4m3) (v4298 : FVec F S1x128 .f32) (v4392 : FVec F S8x128 .f32), FVec F S8x128 .f32 ← k0_part316 i arg1 harg1 arg2 harg2 arg3 harg3 arg4 harg4 arg5 harg5 arg6 harg6 arg7 harg7 arg8 harg8 arg9 harg9 arg10 harg10 arg11 harg11 k0_t2 v6 v14 v17 v20 v23 v27 v30 v1413 v1415 v1988 v1992 v2196 v2201
    let ⟨v5685, v5687, v5695, v5698, v5701, v5704, v5708, v5711, v5715, v6212, v6582, v6583⟩ : Σ' (v5685 : FVec F S64x512 .f32) (v5687 : BitVec 32) (v5695 : F .f32) (v5698 : Elt F .f32) (v5701 : F .f32) (v5704 : F .f32) (v5708 : FVec F S512x64 .fp8e4m3) (v5711 : FVec F S64x512 .fp8e4m3) (v5715 : FVec F S512x256 .f32) (v6212 : FVec F S1x128 .f32) (v6582 : FVec F S8x128 .f32), FVec F S8x128 .f32 ← k0_part317 i arg1 harg1 arg2 harg2 arg3 harg3 arg4 harg4 arg5 harg5 arg6 harg6 arg7 harg7 arg8 harg8 arg9 harg9 arg10 harg10 arg11 harg11 arg0 k0_t2 v5 v6 v14 v17 v20 v30 v2857 v2861 v4296 v4298 v4392 v4393
    let ⟨v8538, v8542, v8641, v8794, v8797, v8799⟩ : Σ' (v8538 : FVec F S64x256 .f32) (v8542 : FVec F S512x256 .f32) (v8641 : FVec F S8x128 .f32) (v8794 : FVec F S8x128 .f32) (v8797 : FVec F S8x128 .f32), Vec F S1x8x128 .f32 ← k0_part318 i arg1 harg1 arg2 harg2 arg3 harg3 arg4 harg4 arg5 harg5 arg6 harg6 arg7 harg7 arg8 harg8 arg9 harg9 arg10 harg10 arg11 harg11 k0_t2 v5687 v5695 v5698 v5701 v5704 v5708 v5711 v5715 v6212 v6582 v6583
    let ⟨v9977, v9979, v10474, v10987, v10992, v10993⟩ : Σ' (v9977 : FVec F S512x128 .fp8e4m3) (v9979 : FVec F S1x128 .f32) (v10474 : FVec F S1x128 .f32) (v10987 : FVec F S8x128 .f32) (v10992 : FVec F S8x128 .f32), FVec F S8x128 .f32 ← k0_part319 i arg1 harg1 arg2 harg2 arg3 harg3 arg4 harg4 arg5 harg5 arg6 harg6 arg7 harg7 arg8 harg8 arg9 harg9 arg10 harg10 arg11 harg11 k0_t2 v5687 v5695 v5698 v5701 v5704 v8542 v8641 v8794 v8797 v8799
    let v11023 : FVec F S8x128 .f32 ← k0_part305 i arg1 harg1 arg2 harg2 arg3 harg3 arg4 harg4 arg5 harg5 arg6 harg6 arg7 harg7 arg8 harg8 arg9 harg9 arg10 harg10 arg11 harg11 v10474 v10987 v10992 v10993
    let ⟨v11058, v11059⟩ : Σ' (v11058 : FVec F S8x128 .f32), FVec F S8x128 .f32 ← k0_part306 i arg1 harg1 arg2 harg2 arg3 harg3 arg4 harg4 arg5 harg5 arg6 harg6 arg7 harg7 arg8 harg8 arg9 harg9 arg10 harg10 arg11 harg11 v10474 v11023
    let ⟨v11094, v11095⟩ : Σ' (v11094 : FVec F S8x128 .f32), FVec F S8x128 .f32 ← k0_part307 i arg1 harg1 arg2 harg2 arg3 harg3 arg4 harg4 arg5 harg5 arg6 harg6 arg7 harg7 arg8 harg8 arg9 harg9 arg10 harg10 arg11 harg11 v10474 v11058 v11059
    let v11129 : FVec F S1x128 .f32 ← k0_part308 i arg1 harg1 arg2 harg2 arg3 harg3 arg4 harg4 arg5 harg5 arg6 harg6 arg7 harg7 arg8 harg8 arg9 harg9 arg10 harg10 arg11 harg11 v10474 v11094 v11095
    let ⟨v11162, v11166, v11167, v11168⟩ : Σ' (v11162 : IVec S1x128 32) (v11166 : IVec S1x128 1) (v11167 : IVec S1x128 32), IVec S1x128 32 ← k0_part309 i arg1 harg1 arg2 harg2 arg3 harg3 arg4 harg4 arg5 harg5 arg6 harg6 arg7 harg7 arg8 harg8 arg9 harg9 arg10 harg10 arg11 harg11 v11129
    let ⟨v11207, v11209⟩ : Σ' (v11207 : FVec F S1x128 .f32), IVec S1x128 32 ← k0_part310 i arg1 harg1 arg2 harg2 arg3 harg3 arg4 harg4 arg5 harg5 arg6 harg6 arg7 harg7 arg8 harg8 arg9 harg9 arg10 harg10 arg11 harg11 v11129 v11162 v11166 v11167 v11168
    let ⟨v11213, v11222, v11231, v11240, v11248⟩ : Σ' (v11213 : FVec F S1x128 .f32) (v11222 : FVec F S32x128 .fp8e4m3) (v11231 : FVec F S32x128 .fp8e4m3) (v11240 : FVec F S32x128 .fp8e4m3), FVec F S32x128 .f32 ← k0_part311 i arg1 harg1 arg2 harg2 arg3 harg3 arg4 harg4 arg5 harg5 arg6 harg6 arg7 harg7 arg8 harg8 arg9 harg9 arg10 harg10 arg11 harg11 v11129 v11209
    let ⟨v11249, v11258, v11267, v11276, v11285⟩ : Σ' (v11249 : FVec F S32x128 .fp8e4m3) (v11258 : FVec F S32x128 .fp8e4m3) (v11267 : FVec F S32x128 .fp8e4m3) (v11276 : FVec F S32x128 .fp8e4m3), FVec F S32x128 .fp8e4m3 ← k0_part312 i arg1 harg1 arg2 harg2 arg3 harg3 arg4 harg4 arg5 harg5 arg6 harg6 arg7 harg7 arg8 harg8 arg9 harg9 arg10 harg10 arg11 harg11 v11213 v11248
    let ⟨v11294, v11303, v11312, v11321, v11325⟩ : Σ' (v11294 : FVec F S32x128 .fp8e4m3) (v11303 : FVec F S32x128 .fp8e4m3) (v11312 : FVec F S32x128 .fp8e4m3) (v11321 : FVec F S32x128 .fp8e4m3), FVec F S32x128 .f32 ← k0_part313 i arg1 harg1 arg2 harg2 arg3 harg3 arg4 harg4 arg5 harg5 arg6 harg6 arg7 harg7 arg8 harg8 arg9 harg9 arg10 harg10 arg11 harg11 v11213
    let v11367 : FVec F S128x512 .f32 ← k0_part314 i arg1 harg1 arg2 harg2 arg3 harg3 arg4 harg4 arg5 harg5 arg6 harg6 arg7 harg7 arg8 harg8 arg9 harg9 arg10 harg10 arg11 harg11 v5685 v5698 v5711 v8538 v9977 v9979 v11207 v11213 v11222 v11231 v11240 v11249 v11258 v11267 v11276 v11285 v11294 v11303 v11312 v11321 v11325
    have v11368 : FVec F S512x128 .f32 := transpose S512x128 [1, 0] v11367 transposes_S128x512_p1_0_S512x128
    have v11369 : FVec F S512x128 .bf16 := truncf .bf16 v11368 bitsLt_bf16_f32
    let c2_i32_6142 : BitVec 32 := 2#32
    let v11370 : BitVec 32 := Scalar.muli v5 c2_i32_6142
    let c64_i32 : BitVec 32 := 64#32
    let v11371 : BitVec 32 := Scalar.muli v11370 c64_i32
    let v11372 : BitVec 32 := v11371
    let c0_6143 : Index := 0#32
    let c0_6144 : Index := 0#32
    let v11373 : Index := Scalar.indexCast v11372
    let v11374 : Vec F S1x512x128 .bf16 ← Prog.lift (.load arg8 (Rect.unit (s := S1x512x1024) (k0_off126 k0_t2) S1x512x128.size (k0_off126_inb k0_t2)).toLoadRect (View.loadsAt_vmem h_S1x512x128))
    have v11375 : FVec F S512x128 .bf16 := shapeCast S512x128 v11374 shapeCasts_S1x512x128_S512x128
    have v11376 : FVec F S1x512x128 .bf16 := shapeCast S1x512x128 v11369 shapeCasts_S512x128_S1x512x128
    Prog.lift (.store arg8 (Rect.unit (s := S1x512x1024) (k0_off126 k0_t2) S1x512x128.size (k0_off126_inb k0_t2)) v11376 Finset.univ (View.stores_vmem h_S1x512x128 (harg8.storeExact_slice rfl _ (k0_off126_packedbf16 k0_t2)) (fun _ => rfl)) (.inl rfl))
    pure ⟨⟩

theorem trip_eq (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_t2 : Fin k0_t2_loop.trips)
    (h0 : (Scalar.indexCast (T5.w0 k0_t2_loop.trips k0_t2)).toNat < 16) (h1 : (Scalar.indexCast (T5.w1 k0_t2_loop.trips k0_t2)).toNat < 16)
    (hb : (Scalar.indexCast (BitVec.ofNat 32 (i 0).val)).toNat < 24)
    (ho : (Scalar.indexCast (Scalar.muli (Scalar.muli (Scalar.addi 0#32 (Scalar.muli (Scf.iv 0#32 1#32 k0_t2) 1#32)) 2#32) 64#32)).toNat + 128 ≤ 1024)
    (hst : (arg8.access (T5.rectO _ ho)).Stores Finset.univ) :
    trip (F := F) i arg1 harg1 arg2 harg2 arg3 harg3 arg4 harg4 arg5 harg5 arg6 harg6 arg7 harg7 arg8 harg8 arg9 harg9 arg10 harg10 arg11 harg11 k0_t2 = T5.tripK arg9 arg10 arg11 arg1 arg2 arg3 arg4 arg5 arg6 arg7 arg8 (Scalar.ofBits .f32 0x3FB8AA3B#32) _ _ _ _ h0 h1 hb ho hst :=
  rfl

end Cert.Kernel
-- ==== Proof.BodyK.lean ====
module

public import proofs.«01_k».proof.Proof.Heads
public import proofs.«01_k».proof.Proof.SameK

@[expose] public section

set_option maxRecDepth 100000
set_option maxHeartbeats 0

namespace Cert.Kernel

open Idealize.ShloMosaic Idealize.SL.Sem
open Facts₀ Facts

variable {F : FTy → Type} [FloatOps F]
variable [Facts]

/-- One trip of the printed body's loop over the heads of the bias table. -/
noncomputable def tab (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_h1 : k0_cond1 i = 1#1) (k0_t1 : Fin k0_t1_loop.trips) : Prog (TpuEff nD τ sig (Elt F) Λ₀ .tc) PUnit := do
    let c0_i32_3 : BitVec 32 := 0#32
    let c1_i32_4 : BitVec 32 := 1#32
    have v8 : IVec S320x128 32 := T5.dist
    have v9 : IVec S320x128 32 := absi T5.dist
    let ⟨v12, v42, v48, v50, v53⟩ : Σ' (v12 : BitVec 32) (v42 : FVec F S320x128 .f32) (v48 : FVec F S320x128 .f32) (v50 : IVec S320x128 1), FVec F S320x128 .f32 ← k0_part1 i arg1 harg1 arg2 harg2 arg3 harg3 arg4 harg4 arg5 harg5 arg6 harg6 arg7 harg7 arg8 harg8 arg9 harg9 arg10 harg10 arg11 harg11 k0_h1 v9 c0_i32_3 c1_i32_4 k0_t1
    let ⟨v90, v96, v98⟩ : Σ' (v90 : FVec F S320x128 .f32) (v96 : FVec F S320x128 .f32), IVec S320x128 1 ← k0_part2 i arg1 harg1 arg2 harg2 arg3 harg3 arg4 harg4 arg5 harg5 arg6 harg6 arg7 harg7 arg8 harg8 arg9 harg9 arg10 harg10 arg11 harg11 k0_h1 v9 k0_t1 v12 v42 v48 v50 v53
    let ⟨v132, v138, v140, v143⟩ : Σ' (v132 : FVec F S320x128 .f32) (v138 : FVec F S320x128 .f32) (v140 : IVec S320x128 1), FVec F S320x128 .f32 ← k0_part3 i arg1 harg1 arg2 harg2 arg3 harg3 arg4 harg4 arg5 harg5 arg6 harg6 arg7 harg7 arg8 harg8 arg9 harg9 arg10 harg10 arg11 harg11 k0_h1 v9 k0_t1 v12 v90 v96 v98
    let ⟨v180, v186, v188⟩ : Σ' (v180 : FVec F S320x128 .f32) (v186 : FVec F S320x128 .f32), IVec S320x128 1 ← k0_part4 i arg1 harg1 arg2 harg2 arg3 harg3 arg4 harg4 arg5 harg5 arg6 harg6 arg7 harg7 arg8 harg8 arg9 harg9 arg10 harg10 arg11 harg11 k0_h1 v9 k0_t1 v12 v132 v138 v140 v143
    let v189 : Index := Scalar.indexCast v12
    let c15 : Index := 15#32
    let v190 : Elt F .f32 ← smemLoad arg4 (Rect.unit (s := S16x32) (k0_off31 k0_t1) S1x1.size (k0_off31_inb i k0_t1 k0_h1)) numel1_S1x1 rfl
    have v191 : FVec F S320x128 .f32 := broadcast S320x128 v190
    have v192 : FVec F S320x128 .f32 := select v188 v191 v180
    let c91_i32_25 : BitVec 32 := 91#32
    have v193 : IVec S320x128 32 := broadcast S320x128 c91_i32_25
    have v194 : IVec S320x128 1 := cmpi .sge v9 v193
    let v195 : Index := Scalar.indexCast v12
    let c31 : Index := 31#32
    let v196 : Elt F .f32 ← smemLoad arg4 (Rect.unit (s := S16x32) (k0_off32 k0_t1) S1x1.size (k0_off32_inb i k0_t1 k0_h1)) numel1_S1x1 rfl
    have v197 : FVec F S320x128 .f32 := broadcast S320x128 v196
    have v198 : FVec F S320x128 .f32 := select v194 v197 v186
    let c0_i32_26 : BitVec 32 := 0#32
    have v199 : IVec S320x128 32 := broadcast S320x128 c0_i32_26
    have v200 : IVec S320x128 1 := cmpi .sgt v8 v199
    have v201 : FVec F S320x128 .f32 := select v200 v198 v192
    have cst : F .f32 := Scalar.ofBits .f32 0x3FB8AA3B#32
    have v202 : FVec F S320x128 .f32 := broadcast S320x128 cst
    have v203 : FVec F S320x128 .f32 := mulf v201 v202
    let v204 : Index := Scalar.indexCast v12
    let c0_27 : Index := 0#32
    let c0_28 : Index := 0#32
    let v205 : Vec F S1x320x128 .f32 ← Prog.lift (.load arg9 (Rect.unit (s := S16x320x128) (k0_off33 k0_t1) S1x320x128.size (k0_off33_inb i k0_t1 k0_h1)).toLoadRect (View.loadsAt_vmem h_S1x320x128))
    have v206 : FVec F S320x128 .f32 := shapeCast S320x128 v205 shapeCasts_S1x320x128_S320x128
    have v207 : FVec F S1x320x128 .f32 := shapeCast S1x320x128 v203 shapeCasts_S320x128_S1x320x128
    Prog.lift (.store arg9 (Rect.unit (s := S16x320x128) (k0_off33 k0_t1) S1x320x128.size (k0_off33_inb i k0_t1 k0_h1)) v207 Finset.univ (View.stores_vmem_bits_univ h_S1x320x128 rfl) (.inl rfl))
    pure ⟨⟩

/-- The word of the head that trip `t` of that loop writes. -/
def wt (n : Nat) (t : Fin n) : BitVec 32 := Scalar.addi 0#32 (Scalar.muli (Scf.iv 0#32 1#32 t) 1#32)

theorem tab_eq (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole)
    (k0_h1 : k0_cond1 i = 1#1) (k0_t1 : Fin k0_t1_loop.trips)
    (hh : (Scalar.indexCast (wt k0_t1_loop.trips k0_t1)).toNat < 16) :
    tab (F := F) i arg1 harg1 arg2 harg2 arg3 harg3 arg4 harg4 arg5 harg5 arg6 harg6 arg7 harg7 arg8 harg8 arg9 harg9 arg10 harg10 arg11 harg11 k0_h1 k0_t1 = T5.tabK arg9 arg4 (Scalar.ofBits .f32 0x3FB8AA3B#32) _ hh :=
  rfl

/-- The loop over the pairs of heads. -/
noncomputable def pairs (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole) : Prog (TpuEff nD τ sig (Elt F) Λ₀ .tc) PUnit :=
  (Scf.Loop.for k0_t2_loop k0_t2_ok (⟨⟩ : PUnit) fun k0_t2 _ => trip i arg1 harg1 arg2 harg2 arg3 harg3 arg4 harg4 arg5 harg5 arg6 harg6 arg7 harg7 arg8 harg8 arg9 harg9 arg10 harg10 arg11 harg11 k0_t2) >>= fun _ => pure PUnit.unit

/-- The printed body: the table at the first grid point, then the pairs of heads. -/
theorem body_eq (i : grid0.Coords) (arg1 : Memref sig .tc .smem S16x24 .f32) (harg1 : arg1.IsWhole) (arg2 : Memref sig .tc .smem S16x24 .f32) (harg2 : arg2.IsWhole) (arg3 : Memref sig .tc .smem S16x24 .f32) (harg3 : arg3.IsWhole) (arg4 : Memref sig .tc .smem S16x32 .f32) (harg4 : arg4.IsWhole) (arg5 : Memref sig .tc .vmem S1x16x64x512 .fp8e4m3) (harg5 : arg5.IsWhole) (arg6 : Memref sig .tc .vmem S1x16x64x512 .fp8e4m3) (harg6 : arg6.IsWhole) (arg7 : Memref sig .tc .vmem S1x16x64x512 .fp8e4m3) (harg7 : arg7.IsWhole) (arg8 : Memref sig .tc .vmem S1x512x1024 .bf16) (harg8 : arg8.IsWhole) (arg9 : Memref sig .tc .vmem S16x320x128 .f32) (harg9 : arg9.IsWhole) (arg10 : Memref sig .tc .vmem S2x512x512 .f32) (harg10 : arg10.IsWhole) (arg11 : Memref sig .tc .vmem S2x512x512 .f32) (harg11 : arg11.IsWhole) :
    cc0__body (F := F) i arg1 harg1 arg2 harg2 arg3 harg3 arg4 harg4 arg5 harg5 arg6 harg6 arg7 harg7 arg8 harg8 arg9 harg9 arg10 harg10 arg11 harg11
      = if k0_h1 : k0_cond1 i = 1#1 then
          (Scf.Loop.for k0_t1_loop (k0_t1_ok i k0_h1) (⟨⟩ : PUnit) fun k0_t1 _ => tab i arg1 harg1 arg2 harg2 arg3 harg3 arg4 harg4 arg5 harg5 arg6 harg6 arg7 harg7 arg8 harg8 arg9 harg9 arg10 harg10 arg11 harg11 k0_h1 k0_t1) >>= fun _ => pairs i arg1 harg1 arg2 harg2 arg3 harg3 arg4 harg4 arg5 harg5 arg6 harg6 arg7 harg7 arg8 harg8 arg9 harg9 arg10 harg10 arg11 harg11
        else pairs i arg1 harg1 arg2 harg2 arg3 harg3 arg4 harg4 arg5 harg5 arg6 harg6 arg7 harg7 arg8 harg8 arg9 harg9 arg10 harg10 arg11 harg11 :=
  rfl

end Cert.Kernel
-- ==== Proof.PipeK.lean ====
module

public import proofs.«01_k».proof.Proof.BodyK
public import proofs.«01_k».proof.Proof.Gen.Kernel.Frame
public import Idealize.ShloMosaic.Lib.Claim

@[expose] public section

set_option maxRecDepth 16384

noncomputable section

/-! The body at a grid point from the invariant to the invariant, and the run of the whole program. -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The printed loop counters and offsets -/

theorem trips1 : k0_t1_loop.trips = 16 := by decide
theorem trips2 : k0_t2_loop.trips = 8 := by decide
theorem word_t : ∀ t : Fin k0_t1_loop.trips, (Scalar.indexCast (wt k0_t1_loop.trips t)).toNat = t.val := by decide
theorem word_0 : ∀ t : Fin k0_t2_loop.trips, (Scalar.indexCast (T5.w0 k0_t2_loop.trips t)).toNat = 2 * t.val := by decide
theorem word_1 : ∀ t : Fin k0_t2_loop.trips, (Scalar.indexCast (T5.w1 k0_t2_loop.trips t)).toNat = 2 * t.val + 1 := by decide
theorem word_o : ∀ t : Fin k0_t2_loop.trips,
    (Scalar.indexCast (Scalar.muli (Scalar.muli (Scalar.addi 0#32 (Scalar.muli (Scf.iv 0#32 1#32 t) 1#32)) 2#32) 64#32)).toNat = 128 * t.val := by decide
theorem word_b : ∀ t : Fin grid0.N, (Scalar.indexCast (BitVec.ofNat 32 (grid0.coords t 0).val)).toNat = t.val := by decide
theorem cond_iff : ∀ t : Fin grid0.N, k0_cond1 (grid0.coords t) = 1#1 ↔ t.val = 0 := by decide

variable {c : Dev nD}

/-- The value the scale and the biases are multiplied by. -/
abbrev lv : F .f32 := Scalar.ofBits .f32 0x3FB8AA3B#32

section body

variable (t : Fin grid0.N)
variable {arg1 : Memref sig .tc .smem S16x24 .f32} {harg1 : arg1.IsWhole} {arg2 : Memref sig .tc .smem S16x24 .f32} {harg2 : arg2.IsWhole} {arg3 : Memref sig .tc .smem S16x24 .f32} {harg3 : arg3.IsWhole} {arg4 : Memref sig .tc .smem S16x32 .f32} {harg4 : arg4.IsWhole} {arg5 : Memref sig .tc .vmem S1x16x64x512 .fp8e4m3} {harg5 : arg5.IsWhole} {arg6 : Memref sig .tc .vmem S1x16x64x512 .fp8e4m3} {harg6 : arg6.IsWhole} {arg7 : Memref sig .tc .vmem S1x16x64x512 .fp8e4m3} {harg7 : arg7.IsWhole} {arg8 : Memref sig .tc .vmem S1x512x1024 .bf16} {harg8 : arg8.IsWhole} {arg9 : Memref sig .tc .vmem S16x320x128 .f32} {harg9 : arg9.IsWhole} {arg10 : Memref sig .tc .vmem S2x512x512 .f32} {harg10 : arg10.IsWhole} {arg11 : Memref sig .tc .vmem S2x512x512 .f32} {harg11 : arg11.IsWhole}
variable {X1 X2 X3 : FVec F T5.HSc .f32} {X4 : FVec F T5.HBi .f32} {X5 X6 X7 : FVec F T5.HQ .fp8e4m3} {T : FVec F T5.HT .f32}

/-- What the loop over the pairs holds after `k` trips. -/
def pairsInv (c : Dev nD) (arg1 : Memref sig .tc .smem S16x24 .f32) (arg2 : Memref sig .tc .smem S16x24 .f32) (arg3 : Memref sig .tc .smem S16x24 .f32) (arg4 : Memref sig .tc .smem S16x32 .f32) (arg5 : Memref sig .tc .vmem S1x16x64x512 .fp8e4m3) (arg6 : Memref sig .tc .vmem S1x16x64x512 .fp8e4m3) (arg7 : Memref sig .tc .vmem S1x16x64x512 .fp8e4m3) (arg8 : Memref sig .tc .vmem S1x512x1024 .bf16) (arg9 : Memref sig .tc .vmem S16x320x128 .f32) (arg10 arg11 : Memref sig .tc .vmem S2x512x512 .f32)
    (X1 X2 X3 : FVec F T5.HSc .f32) (X4 : FVec F T5.HBi .f32) (X5 X6 X7 : FVec F T5.HQ .fp8e4m3) (T : FVec F T5.HT .f32) (b : Fin 24) (k : Nat) (_ : PUnit) : sProp 𝕄 :=
  iprop(T5.ins c arg1 arg2 arg3 arg4 arg5 arg6 arg7 X1 X2 X3 X4 X5 X6 X7 ∗ T5.scr c arg9 arg10 arg11 T
    ∗ ∃ X8 : FVec F T5.HO .bf16, ⌜∀ p : T5.HO.Idx, (p 2).val < 128 * k → X8 p = T5.blockOut X1 X2 X3 X4 X5 X6 X7 T lv b.val b.isLt p⌝ ∗ T5.own c arg8 X8)

theorem trip_sound (hN : t.val < 24) (k : Fin k0_t2_loop.trips) (u : PUnit) :
    pairsInv (F := F) c arg1 arg2 arg3 arg4 arg5 arg6 arg7 arg8 arg9 arg10 arg11 X1 X2 X3 X4 X5 X6 X7 T ⟨t.val, hN⟩ k.val u
      ⊢ T5.WP (defs₀ (F := F)) c (trip (F := F) (grid0.coords t) arg1 harg1 arg2 harg2 arg3 harg3 arg4 harg4 arg5 harg5 arg6 harg6 arg7 harg7 arg8 harg8 arg9 harg9 arg10 harg10 arg11 harg11 k)
          (pairsInv (F := F) c arg1 arg2 arg3 arg4 arg5 arg6 arg7 arg8 arg9 arg10 arg11 X1 X2 X3 X4 X5 X6 X7 T ⟨t.val, hN⟩ (k.val + 1)) := by
  have hk : k.val < 8 := trips2 ▸ k.isLt
  have e0 := word_0 k
  have e1 := word_1 k
  have eo := word_o k
  have eb := word_b t
  rw [trip_eq _ _ _ _ _ _ _ _ _ _ _ _ _ _ _ _ _ _ _ _ _ _ _ _ (by omega) (by omega) (by omega) (by omega)
    (View.stores_vmem T5.pos_o (harg8.storeExact_slice rfl _ (k0_off126_packedbf16 k)) (fun _ => rfl))]
  unfold pairsInv
  iintro ⟨Hi, Hs, ⟨%X8, %hX, H8⟩⟩
  iapply T5.wp_tripK $$ [Hi H8 Hs]
  · isplitl [Hi]; · iexact Hi
    isplitl [H8]; · iexact H8
    iexact Hs
  iintro Hi H8 Hs
  isplitl [Hi]; · iexact Hi
  isplitl [Hs]; · iexact Hs
  iexists _
  isplitr
  swap
  · iexact H8
  ipureintro
  exact T5.cols_upd eb _ e0 e1 eo hX

theorem pairs_sound (hN : t.val < 24) {Q : PUnit → sProp 𝕄} :
    iprop(T5.ins c arg1 arg2 arg3 arg4 arg5 arg6 arg7 X1 X2 X3 X4 X5 X6 X7 ∗ T5.scr c arg9 arg10 arg11 T ∗ ∃ X8 : FVec F T5.HO .bf16, T5.own c arg8 X8)
      ⊢ iprop((T5.ins c arg1 arg2 arg3 arg4 arg5 arg6 arg7 X1 X2 X3 X4 X5 X6 X7 -∗ T5.scr c arg9 arg10 arg11 T
          -∗ T5.own c arg8 (T5.blockOut X1 X2 X3 X4 X5 X6 X7 T lv t.val hN) -∗ Q ⟨⟩)
        -∗ T5.WP (defs₀ (F := F)) c (pairs (F := F) (grid0.coords t) arg1 harg1 arg2 harg2 arg3 harg3 arg4 harg4 arg5 harg5 arg6 harg6 arg7 harg7 arg8 harg8 arg9 harg9 arg10 harg10 arg11 harg11) Q) := by
  unfold pairs
  iintro ⟨Hi, Hs, ⟨%X8, H8⟩⟩ Hk
  iapply (Scf.wp_for_bind frame (wpE (defs₀ (F := F)) Variants.none (c : Thread nD τ) none) Set.univ _ _ _ k0_t2_ok _ _
    (pairsInv (F := F) c arg1 arg2 arg3 arg4 arg5 arg6 arg7 arg8 arg9 arg10 arg11 X1 X2 X3 X4 X5 X6 X7 T ⟨t.val, hN⟩)
    (trip_sound t hN)) $$ [Hi Hs H8]
  · unfold pairsInv
    isplitl [Hi]; · iexact Hi
    isplitl [Hs]; · iexact Hs
    iexists X8
    isplitr
    · ipureintro
      intro p hp
      omega
    iexact H8
  unfold pairsInv
  iintro %s ⟨Hi, Hs, ⟨%Y, %hY, H8⟩⟩
  iapply (le_wp_ret _ _)
  have hY' : Y = T5.blockOut X1 X2 X3 X4 X5 X6 X7 T lv t.val hN := by
    funext p
    refine hY p ?_
    have : (p 2).val < 1024 := (p 2).isLt
    rw [show Scf.trips _ _ _ = 8 from trips2]
    omega
  subst hY'
  iapply Hk $$ Hi Hs H8

/-- What the loop over the heads of the table holds after `k` trips. -/
def tabInv (c : Dev nD) (arg4 : Memref sig .tc .smem S16x32 .f32) (arg9 : Memref sig .tc .vmem S16x320x128 .f32)
    (X4 : FVec F T5.HBi .f32) (k : Nat) (_ : PUnit) : sProp 𝕄 :=
  iprop(T5.own c arg4 X4 ∗ ∃ T : FVec F T5.HT .f32, ⌜∀ p : T5.HT.Idx, (p 0).val < k → T p = T5.tabFull X4 lv p⌝ ∗ T5.own c arg9 T)

theorem tab_sound (h1 : k0_cond1 (grid0.coords t) = 1#1) (k : Fin k0_t1_loop.trips) (u : PUnit) :
    tabInv (F := F) c arg4 arg9 X4 k.val u
      ⊢ T5.WP (defs₀ (F := F)) c (tab (F := F) (grid0.coords t) arg1 harg1 arg2 harg2 arg3 harg3 arg4 harg4 arg5 harg5 arg6 harg6 arg7 harg7 arg8 harg8 arg9 harg9 arg10 harg10 arg11 harg11 h1 k)
          (tabInv (F := F) c arg4 arg9 X4 (k.val + 1)) := by
  have hk : k.val < 16 := trips1 ▸ k.isLt
  have e := word_t k
  rw [tab_eq _ _ _ _ _ _ _ _ _ _ _ _ _ _ _ _ _ _ _ _ _ _ _ _ _ (by omega)]
  unfold tabInv
  iintro ⟨H4, ⟨%T0, %hT, H9⟩⟩
  iapply T5.wp_tabK $$ [H4 H9]
  · isplitl [H4]; · iexact H4
    iexact H9
  iintro H4 H9
  isplitl [H4]; · iexact H4
  iexists _
  isplitr
  swap
  · iexact H9
  ipureintro
  exact T5.rows_upd _ e hT

/-- The body at a point: the table in its scratch buffer is there from the first point on. -/
theorem sound_at (hN : t.val < 24) {Q : PUnit → sProp 𝕄} (TB : FVec F T5.HT .f32) (h0 : t.val = 0 → TB = T5.tabFull X4 lv) :
    iprop(T5.ins c arg1 arg2 arg3 arg4 arg5 arg6 arg7 X1 X2 X3 X4 X5 X6 X7
        ∗ (∃ T : FVec F T5.HT .f32, ⌜0 < t.val → T = TB⌝ ∗ T5.own c arg9 T)
        ∗ (∃ X : FVec F T5.HS .f32, T5.own c arg10 X) ∗ (∃ Y : FVec F T5.HS .f32, T5.own c arg11 Y) ∗ ∃ X8 : FVec F T5.HO .bf16, T5.own c arg8 X8)
      ⊢ iprop((T5.ins c arg1 arg2 arg3 arg4 arg5 arg6 arg7 X1 X2 X3 X4 X5 X6 X7 -∗ T5.scr c arg9 arg10 arg11 TB
          -∗ T5.own c arg8 (T5.blockOut X1 X2 X3 X4 X5 X6 X7 TB lv t.val hN) -∗ Q ⟨⟩)
        -∗ T5.WP (defs₀ (F := F)) c (cc0__body (F := F) (grid0.coords t) arg1 harg1 arg2 harg2 arg3 harg3 arg4 harg4 arg5 harg5 arg6 harg6 arg7 harg7 arg8 harg8 arg9 harg9 arg10 harg10 arg11 harg11) Q) := by
  rw [body_eq]
  iintro ⟨Hi, ⟨%T0, %hT, H9⟩, H10, H11, H8⟩ Hk
  by_cases h1 : k0_cond1 (grid0.coords t) = 1#1
  · rw [dif_pos h1]
    have hTB := h0 ((cond_iff t).1 h1)
    icases Hi with ⟨H1, H2, H3, H4, H5, H6, H7⟩
    iapply (Scf.wp_for_bind frame (wpE (defs₀ (F := F)) Variants.none (c : Thread nD τ) none) Set.univ _ _ _ (k0_t1_ok _ h1) _ _
      (tabInv (F := F) c arg4 arg9 X4) (tab_sound t h1)) $$ [H4 H9]
    · unfold tabInv
      isplitl [H4]; · iexact H4
      iexists T0
      isplitr
      · ipureintro
        intro p hp
        omega
      iexact H9
    unfold tabInv
    iintro %s ⟨H4, ⟨%Y, %hY, H9⟩⟩
    have hY' : Y = TB := by
      rw [hTB]
      funext p
      refine hY p ?_
      rw [show Scf.trips _ _ _ = 16 from trips1]
      exact (p 0).isLt
    subst hY'
    iapply (pairs_sound t hN) $$ [H1 H2 H3 H4 H5 H6 H7 H8 H9 H10 H11]
    · isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitr [H8]
      · isplitl [H9]; · iexact H9
        isplitl [H10]; · iexact H10
        iexact H11
      iexact H8
    iexact Hk
  · rw [dif_neg h1]
    have ht : 0 < t.val := Nat.pos_of_ne_zero fun h => h1 ((cond_iff t).2 h)
    obtain rfl := hT ht
    iapply (pairs_sound t hN) $$ [Hi H8 H9 H10 H11]
    · isplitl [Hi]; · iexact Hi
      isplitr [H8]
      · isplitl [H9]; · iexact H9
        isplitl [H10]; · iexact H10
        iexact H11
      iexact H8
    iexact Hk

end body

variable (m : (ℓ : Loc nD τ sig) → Buf (Elt F) ℓ) (ρ : Dev nD → PrngReg)

theorem lt_24 (t : Fin cfg0.N) : t.val < 24 := N_0 ▸ t.isLt

/-- The first grid point. -/
def first : Fin cfg0.N := ⟨0, by rw [show cfg0.N = 24 from N_0]; decide⟩

/-- The bias table the first point builds. -/
def table (c : Dev nD) : FVec F T5.HT .f32 := T5.tabFull (iblk m c 3 first) lv

/-- What a point writes. -/
def outAt (c : Dev nD) (t : Fin cfg0.N) : FVec F T5.HO .bf16 :=
  T5.blockOut (iblk m c 0 t) (iblk m c 1 t) (iblk m c 2 t) (iblk m c 3 t) (iblk m c 4 t) (iblk m c 5 t) (iblk m c 6 t) (table m c) lv t.val (lt_24 t)

/-- The proof data: the invariant keeps the bias table in its scratch buffer from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := iprop((∃ T : FVec F T5.HT .f32, ⌜0 < t.val → T = table m c⌝ ∗ T5.own c (Memref.whole cc0_scratch0) T)
    ∗ (∃ X : FVec F T5.HS .f32, T5.own c (Memref.whole cc0_scratch1) X) ∗ (∃ Y : FVec F T5.HS .f32, T5.own c (Memref.whole cc0_scratch2) Y)
    ∗ ∃ r, prngReg c r)
  q _ := fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t =
    iprop((∃ T : FVec F T5.HT .f32, ⌜0 < t.val → T = table m c⌝ ∗ T5.own c (Memref.whole cc0_scratch0) T)
    ∗ (∃ X : FVec F T5.HS .f32, T5.own c (Memref.whole cc0_scratch1) X) ∗ (∃ Y : FVec F T5.HS .f32, T5.own c (Memref.whole cc0_scratch2) Y)
    ∗ ∃ r, prngReg c r) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Φ_eq, Φ_eq,
    show (dats m 0 c).owesAt () t.succ = (dats m 0 c).owesAt () t.castSucc from rfl,
    after0_0, after0_1, after0_2, after0_3, after0_4, after0_5, after0_6, after0_7]
  iintro ⟨⟨HT, H10, H11, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_at (F := F) (c := c) t (lt_24 t) (table m c) (X1 := iblk m c 0 t) (X2 := iblk m c 1 t) (X3 := iblk m c 2 t) (X4 := iblk m c 3 t)
    (X5 := iblk m c 4 t) (X6 := iblk m c 5 t) (X7 := iblk m c 6 t) (fun h => by
      have e : t = first := Fin.ext h
      subst e; rfl)) $$ [HT H10 H11 H0 H1 H2 H3 H4 H5 H6 H7]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HT]; · iexact HT
    isplitl [H10]; · iexact H10
    isplitl [H11]; · iexact H11
    iexists _; iexact H7
  iintro ⟨H0, H1, H2, H3, H4, H5, H6⟩ ⟨HT, H10, H11⟩ H7
  isplitl [HT H10 H11 Hr]
  · isplitl [HT]
    · iexists (table m c)
      isplitr
      · ipureintro; intro _; rfl
      iexact HT
    isplitl [H10]; · iexact H10
    isplitl [H11]; · iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The class's invariant gives ours before the first point, -/
theorem hin (c : Dev nD) : Pipeline.ΦA spec0 c ⊢ (dats (F := F) m 0 c).Φ 0 := by
  rw [Φ_eq]
  unfold Pipeline.ΦA T5.own
  rw [scopedRest0_eq]
  simp only [owns_whole]
  iintro ⟨⟨⟨%f, H9⟩, ⟨%g, H10⟩, ⟨%h, H11⟩⟩, Hr⟩
  isplitl [H9]
  · iexists f
    isplitr
    · ipureintro; intro h; exact absurd h (Nat.lt_irrefl 0)
    iexact H9
  isplitl [H10]; · iexists g; iexact H10
  isplitl [H11]; · iexists h; iexact H11
  iexact Hr

/-- and takes it back after the last. -/
theorem hout (c : Dev nD) : (dats (F := F) m 0 c).Φ (Fin.last cfg0.N) ⊢ Pipeline.ΦA spec0 c := by
  rw [Φ_eq]
  unfold Pipeline.ΦA T5.own
  rw [scopedRest0_eq]
  simp only [owns_whole]
  iintro ⟨⟨%f, %hf, H9⟩, ⟨%g, H10⟩, ⟨%h, H11⟩, Hr⟩
  isplitl [H9 H10 H11]
  · isplitl [H9]; · iexists f; iexact H9
    isplitl [H10]; · iexists g; iexact H10
    iexists h; iexact H11
  iexact Hr

set_option backward.isDefEq.respectTransparency.types false in
set_option maxHeartbeats 800000 in
/-- The run: the pipeline's arrays end at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.lean ====
module

public import proofs.«01_k».proof.Proof.Gen.Pre_scales_nonnegative
public import proofs.«01_k».proof.Defs
public import proofs.«01_k».proof.Proof.KerVal
public import proofs.«01_k».proof.Proof.RefVal
public import proofs.«01_k».proof.Proof.Pre
public import proofs.«01_k».proof.Proof.PipeI
public import proofs.«01_k».proof.Proof.PipeK
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The constant `log2_e` of the idealized kernel is the one the kernel has, named. -/
theorem preserves : Cert.preserves_Kernel_KernelIdeal :=
  IdealRules.named_const.statement Cert.KernelIdeal.κ "log2_e" .f32 0x3FB8AA3B#32 (((Real.log 2)⁻¹ : ℝ) : EReal) rfl

/-- Over the extended reals, where no product of a query scale and a key scale is negative, the kernel and the reference
    leave the same result. -/
theorem algebraic : Cert.algebraic_KernelIdeal_ReferenceIdeal_pre_scales_nonnegative (hKernelIdeal := Cert.KernelIdeal.Gen.facts)
    (hReferenceIdeal := Cert.ReferenceIdeal.Gen.facts) (hPre_scales_nonnegative := Cert.Pre_scales_nonnegative.Gen.facts) :=
  fun m g m' g' hp hagree =>
    ⟨_, Cert.KernelIdeal.Value.run m g (fun c b h => @Cert.scales_nonneg Cert.Pre_scales_nonnegative.Gen.facts _ _ _ _ _ _ _ (congrFun (hp c) _) b h),
      (θ_run _ _ _).mono (fun r h c => ⟨(h c).1.trans (by
        obtain ⟨h0, h1, h2, h3, h4, h5, h6⟩ := hagree c
        exact T5.attn_congr h0 h1 h2 h3 h4 h5 h6), (h c).2⟩) (Cert.ReferenceIdeal.Entry.run m' g')⟩

/-- All the claims of the statement: the runs of the three programs, the named constant, and the equal results. -/
theorem claim : Cert.Claim :=
  ⟨Cert.Kernel.Gen.facts, Cert.KernelIdeal.Gen.facts, Cert.ReferenceIdeal.Gen.facts, Cert.Pre_scales_nonnegative.Gen.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    preserves,
    algebraic⟩

end Cert.Proof

end
